-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S1024x1024 : Shape := ⟨2, ![1024, 1024]⟩
abbrev S512x1024 : Shape := ⟨2, ![512, 1024]⟩
abbrev S2048x8 : Shape := ⟨2, ![2048, 8]⟩
abbrev S2x1024x1024 : Shape := ⟨3, ![2, 1024, 1024]⟩
abbrev S3x512x1024 : Shape := ⟨3, ![3, 512, 1024]⟩
abbrev S2 : Shape := ⟨1, ![2]⟩
abbrev S3 : Shape := ⟨1, ![3]⟩
abbrev S1 : Shape := ⟨1, ![1]⟩
abbrev S_ : Shape := ⟨0, ![]⟩
abbrev S1x1024x1024 : Shape := ⟨3, ![1, 1024, 1024]⟩
abbrev S2048x32 : Shape := ⟨2, ![2048, 32]⟩
abbrev S2048 : Shape := ⟨1, ![2048]⟩
abbrev S512x8 : Shape := ⟨2, ![512, 8]⟩
abbrev S512x1 : Shape := ⟨2, ![512, 1]⟩
abbrev S1x512x1024 : Shape := ⟨3, ![1, 512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S8x1024x1024, .f32⟩
  | .hbm, ⟨4, _⟩ => ⟨S1024x1024, .f32⟩
  | .hbm, ⟨5, _⟩ => ⟨S512x1024, .f32⟩
  | .local _ .vmem, ⟨0, _⟩ => ⟨S2048x1024, .f32⟩
  | .local _ .vmem, ⟨1, _⟩ => ⟨S1024x32, .f32⟩
  | .local _ .vmem, ⟨2, _⟩ => ⟨S2048x1, .i32⟩
  | .local _ .vmem, ⟨3, _⟩ => ⟨S1024x1024, .f32⟩
  | .local _ .vmem, ⟨4, _⟩ => ⟨S512x1024, .f32⟩
  | .local _ .vmem, ⟨5, _⟩ => ⟨S2048x1024, .bf16⟩
  | .local _ .vmem, ⟨6, _⟩ => ⟨S2048x8, .f32⟩
  | .local _ .vmem, ⟨7, _⟩ => ⟨S8x1024x1024, .bf16⟩
  | .local _ .vmem, ⟨8, _⟩ => ⟨S2x1024x1024, .f32⟩
  | .local _ .vmem, ⟨9, _⟩ => ⟨S3x512x1024, .bf16⟩
  | .local _ .vmem, ⟨10, _⟩ => ⟨S3x512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v58 : BitVec 32 := Scalar.addi v2 c1_i32_29
  let c4_i32_30 : BitVec 32 := 4#32
  let c0_i32_31 : BitVec 32 := 0#32
  let v59 : BitVec 1 := Scalar.cmpi .eq c4_i32_30 c0_i32_31
  let c1_i32_32 : BitVec 32 := 1#32
  let v60 : BitVec 32 := Scalar.select v59 c1_i32_32 c4_i32_30
  let v61 : BitVec 32 := Scalar.remsi v58 v60
  let c0_i32_34 : BitVec 32 := 0#32
  let v63 : BitVec 1 := Scalar.cmpi .slt v61 c0_i32_34
  let c0_i32_35 : BitVec 32 := 0#32
  let v64 : BitVec 1 := Scalar.cmpi .slt v60 c0_i32_35
  let v65 : BitVec 1 := Scalar.xori v63 v64
  let c0_i32_33 : BitVec 32 := 0#32
  let v62 : BitVec 1 := Scalar.cmpi .ne v61 c0_i32_33
  let v66 : BitVec 1 := Scalar.andi v65 v62
  let v67 : BitVec 32 := Scalar.addi v61 v60
  let v68 : BitVec 32 := Scalar.select v66 v67 v61
  let c1_i32_37 : BitVec 32 := 1#32
  let v69 : BitVec 32 := Scalar.muli v68 c1_i32_37
  let v70 : BitVec 32 := Scalar.addi c0_i32_38 v69
  v70.toNat
def k0_dev2 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v71 : BitVec 32 := Scalar.addi v2 c2_i32
  let c4_i32_39 : BitVec 32 := 4#32
  let c0_i32_40 : BitVec 32 := 0#32
  let v72 : BitVec 1 := Scalar.cmpi .eq c4_i32_39 c0_i32_40
  let c1_i32_41 : BitVec 32 := 1#32
  let v73 : BitVec 32 := Scalar.select v72 c1_i32_41 c4_i32_39
  let v74 : BitVec 32 := Scalar.remsi v71 v73
  let c0_i32_43 : BitVec 32 := 0#32
  let v76 : BitVec 1 := Scalar.cmpi .slt v74 c0_i32_43
  let c0_i32_44 : BitVec 32 := 0#32
  let v77 : BitVec 1 := Scalar.cmpi .slt v73 c0_i32_44
  let v78 : BitVec 1 := Scalar.xori v76 v77
  let c0_i32_42 : BitVec 32 := 0#32
  let v75 : BitVec 1 := Scalar.cmpi .ne v74 c0_i32_42
  let v79 : BitVec 1 := Scalar.andi v78 v75
  let v80 : BitVec 32 := Scalar.addi v74 v73
  let v81 : BitVec 32 := Scalar.select v79 v80 v74
  let c1_i32_46 : BitVec 32 := 1#32
  let v82 : BitVec 32 := Scalar.muli v81 c1_i32_46
  let v83 : BitVec 32 := Scalar.addi c0_i32_47 v82
  v83.toNat
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v84 : BitVec 32 := Scalar.addi v2 c3_i32
  let c4_i32_48 : BitVec 32 := 4#32
  let c0_i32_49 : BitVec 32 := 0#32
  let v85 : BitVec 1 := Scalar.cmpi .eq c4_i32_48 c0_i32_49
  let c1_i32_50 : BitVec 32 := 1#32
  let v86 : BitVec 32 := Scalar.select v85 c1_i32_50 c4_i32_48
  let v87 : BitVec 32 := Scalar.remsi v84 v86
  let c0_i32_52 : BitVec 32 := 0#32
  let v89 : BitVec 1 := Scalar.cmpi .slt v87 c0_i32_52
  let c0_i32_53 : BitVec 32 := 0#32
  let v90 : BitVec 1 := Scalar.cmpi .slt v86 c0_i32_53
  let v91 : BitVec 1 := Scalar.xori v89 v90
  let c0_i32_51 : BitVec 32 := 0#32
  let v88 : BitVec 1 := Scalar.cmpi .ne v87 c0_i32_51
  let v92 : BitVec 1 := Scalar.andi v91 v88
  let v93 : BitVec 32 := Scalar.addi v87 v86
  let v94 : BitVec 32 := Scalar.select v92 v93 v87
  let c1_i32_55 : BitVec 32 := 1#32
  let v95 : BitVec 32 := Scalar.muli v94 c1_i32_55
  let v96 : BitVec 32 := Scalar.addi c0_i32_56 v95
  v96.toNat
def k0_off1 (d0 : Dev nD) (c1_i32_58 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v97 : BitVec 32 := Scalar.addi v2 c1_i32_58
  let c4_i32_59 : BitVec 32 := 4#32
  let c0_i32_60 : BitVec 32 := 0#32
  let v98 : BitVec 1 := Scalar.cmpi .eq c4_i32_59 c0_i32_60
  let c1_i32_61 : BitVec 32 := 1#32
  let v99 : BitVec 32 := Scalar.select v98 c1_i32_61 c4_i32_59
  let v100 : BitVec 32 := Scalar.remsi v97 v99
  let c0_i32_63 : BitVec 32 := 0#32
  let v102 : BitVec 1 := Scalar.cmpi .slt v100 c0_i32_63
  let c0_i32_64 : BitVec 32 := 0#32
  let v103 : BitVec 1 := Scalar.cmpi .slt v99 c0_i32_64
  let v104 : BitVec 1 := Scalar.xori v102 v103
  let c0_i32_62 : BitVec 32 := 0#32
  let v101 : BitVec 1 := Scalar.cmpi .ne v100 c0_i32_62
  let v105 : BitVec 1 := Scalar.andi v104 v101
  let v106 : BitVec 32 := Scalar.addi v100 v99
  let v107 : BitVec 32 := Scalar.select v105 v106 v100
  let c512_i32 : BitVec 32 := 512#32
  let v108 : BitVec 32 := Scalar.muli v107 c512_i32
  let v109 : Index := Scalar.indexCast v108
  let c0_65 : Index := 0#32
  ![v109.toNat, 0]
def k0_off2 (d0 : Dev nD) (c1_i32_58 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v97 : BitVec 32 := Scalar.addi v2 c1_i32_58
  let c4_i32_59 : BitVec 32 := 4#32
  let c0_i32_60 : BitVec 32 := 0#32
  let v98 : BitVec 1 := Scalar.cmpi .eq c4_i32_59 c0_i32_60
  let c1_i32_61 : BitVec 32 := 1#32
  let v99 : BitVec 32 := Scalar.select v98 c1_i32_61 c4_i32_59
  let v100 : BitVec 32 := Scalar.remsi v97 v99
  let c0_i32_63 : BitVec 32 := 0#32
  let v102 : BitVec 1 := Scalar.cmpi .slt v100 c0_i32_63
  let c0_i32_64 : BitVec 32 := 0#32
  let v103 : BitVec 1 := Scalar.cmpi .slt v99 c0_i32_64
  let v104 : BitVec 1 := Scalar.xori v102 v103
  let c0_i32_62 : BitVec 32 := 0#32
  let v101 : BitVec 1 := Scalar.cmpi .ne v100 c0_i32_62
  let v105 : BitVec 1 := Scalar.andi v104 v101
  let v106 : BitVec 32 := Scalar.addi v100 v99
  let v107 : BitVec 32 := Scalar.select v105 v106 v100
  let c512_i32_66 : BitVec 32 := 512#32
  let v111 : BitVec 32 := Scalar.muli v107 c512_i32_66
  let v112 : Index := Scalar.indexCast v111
  let c0_67 : Index := 0#32
  ![v112.toNat, 0]
def k0_dev4 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_284 : BitVec 32 := 1#32
  let v381 : BitVec 32 := Scalar.addi v2 c1_i32_284
  let c4_i32_285 : BitVec 32 := 4#32
  let c0_i32_286 : BitVec 32 := 0#32
  let v382 : BitVec 1 := Scalar.cmpi .eq c4_i32_285 c0_i32_286
  let c1_i32_287 : BitVec 32 := 1#32
  let v383 : BitVec 32 := Scalar.select v382 c1_i32_287 c4_i32_285
  let v384 : BitVec 32 := Scalar.remsi v381 v383
  let c0_i32_289 : BitVec 32 := 0#32
  let v386 : BitVec 1 := Scalar.cmpi .slt v384 c0_i32_289
  let c0_i32_290 : BitVec 32 := 0#32
  let v387 : BitVec 1 := Scalar.cmpi .slt v383 c0_i32_290
  let v388 : BitVec 1 := Scalar.xori v386 v387
  let c0_i32_288 : BitVec 32 := 0#32
  let v385 : BitVec 1 := Scalar.cmpi .ne v384 c0_i32_288
  let v389 : BitVec 1 := Scalar.andi v388 v385
  let v390 : BitVec 32 := Scalar.addi v384 v383
  let v391 : BitVec 32 := Scalar.select v389 v390 v384
  let c1_i32_295 : BitVec 32 := 1#32
  let v392 : BitVec 32 := Scalar.muli v391 c1_i32_295
  let v393 : BitVec 32 := Scalar.addi c0_i32_296 v392
  v393.toNat
def k0_dev5 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_304 : BitVec 32 := 2#32
  let v406 : BitVec 32 := Scalar.addi v2 c2_i32_304
  let c4_i32_305 : BitVec 32 := 4#32
  let c0_i32_306 : BitVec 32 := 0#32
  let v407 : BitVec 1 := Scalar.cmpi .eq c4_i32_305 c0_i32_306
  let c1_i32_307 : BitVec 32 := 1#32
  let v408 : BitVec 32 := Scalar.select v407 c1_i32_307 c4_i32_305
  let v409 : BitVec 32 := Scalar.remsi v406 v408
  let c0_i32_309 : BitVec 32 := 0#32
  let v411 : BitVec 1 := Scalar.cmpi .slt v409 c0_i32_309
  let c0_i32_310 : BitVec 32 := 0#32
  let v412 : BitVec 1 := Scalar.cmpi .slt v408 c0_i32_310
  let v413 : BitVec 1 := Scalar.xori v411 v412
  let c0_i32_308 : BitVec 32 := 0#32
  let v410 : BitVec 1 := Scalar.cmpi .ne v409 c0_i32_308
  let v414 : BitVec 1 := Scalar.andi v413 v410
  let v415 : BitVec 32 := Scalar.addi v409 v408
  let v416 : BitVec 32 := Scalar.select v414 v415 v409
  let c1_i32_315 : BitVec 32 := 1#32
  let v417 : BitVec 32 := Scalar.muli v416 c1_i32_315
  let v418 : BitVec 32 := Scalar.addi c0_i32_316 v417
  v418.toNat
def k0_dev6 (d0 : Dev nD) : Nat :=
  let c0_i32_380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_368 : BitVec 32 := 3#32
  let v505 : BitVec 32 := Scalar.addi v2 c3_i32_368
  let c4_i32_369 : BitVec 32 := 4#32
  let c0_i32_370 : BitVec 32 := 0#32
  let v506 : BitVec 1 := Scalar.cmpi .eq c4_i32_369 c0_i32_370
  let c1_i32_371 : BitVec 32 := 1#32
  let v507 : BitVec 32 := Scalar.select v506 c1_i32_371 c4_i32_369
  let v508 : BitVec 32 := Scalar.remsi v505 v507
  let c0_i32_373 : BitVec 32 := 0#32
  let v510 : BitVec 1 := Scalar.cmpi .slt v508 c0_i32_373
  let c0_i32_374 : BitVec 32 := 0#32
  let v511 : BitVec 1 := Scalar.cmpi .slt v507 c0_i32_374
  let v512 : BitVec 1 := Scalar.xori v510 v511
  let c0_i32_372 : BitVec 32 := 0#32
  let v509 : BitVec 1 := Scalar.cmpi .ne v508 c0_i32_372
  let v513 : BitVec 1 := Scalar.andi v512 v509
  let v514 : BitVec 32 := Scalar.addi v508 v507
  let v515 : BitVec 32 := Scalar.select v513 v514 v508
  let c1_i32_379 : BitVec 32 := 1#32
  let v516 : BitVec 32 := Scalar.muli v515 c1_i32_379
  let v517 : BitVec 32 := Scalar.addi c0_i32_380 v516
  v517.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_385 : BitVec 32 := 512#32
  let v526 : BitVec 32 := Scalar.muli v2 c512_i32_385
  let v527 : Index := Scalar.indexCast v526
  let c0_386 : Index := 0#32
  ![v527.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_387 : BitVec 32 := 512#32
  let v529 : BitVec 32 := Scalar.muli v2 c512_i32_387
  let v530 : Index := Scalar.indexCast v529
  let c0_388 : Index := 0#32
  ![v530.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S1024x1024 : Shape := ⟨2, ![1024, 1024]⟩
abbrev S2048x32 : Shape := ⟨2, ![2048, 32]⟩
abbrev S_ : Shape := ⟨0, ![]⟩
abbrev S2048 : Shape := ⟨1, ![2048]⟩
abbrev S2048x1x1 : Shape := ⟨3, ![2048, 1, 1]⟩
abbrev S1 : Shape := ⟨1, ![1]⟩
abbrev S1x1x1 : Shape := ⟨3, ![1, 1, 1]⟩
abbrev S2048x1024x1024 : Shape := ⟨3, ![2048, 1024, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S32x1024x1024, .f32⟩
  | .hbm, ⟨4, _⟩ => ⟨S1024x1024, .f32⟩
  | .hbm, ⟨5, _⟩ => ⟨S2048x32, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x32, .f32⟩
  | .hbm, ⟨10, _⟩ => ⟨S2048x32, .f32⟩
  | .hbm, ⟨11, _⟩ => ⟨S2048x32, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x32, .f32⟩
  | .hbm, ⟨16, _⟩ => ⟨S2048x32, .f32⟩
  | .hbm, ⟨17, _⟩ => ⟨S2048x1024, .f32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S_, .i32⟩
  | .hbm, ⟨36, _⟩ => ⟨S2048x1, .i32⟩
  | .hbm, ⟨37, _⟩ => ⟨S2048x1, .i1⟩
  | .hbm, ⟨38, _⟩ => ⟨S_, .i32⟩
  | .hbm, ⟨39, _⟩ => ⟨S2048x1, .i32⟩
  | .hbm, ⟨40, _⟩ => ⟨S2048x1, .i32⟩
  | .hbm, ⟨41, _⟩ => ⟨S2048x1, .i32⟩
  | .hbm, ⟨42, _⟩ => ⟨S2048x1x1, .i32⟩
  | .hbm, ⟨43, _⟩ => ⟨S1, .i32⟩
  | .hbm, ⟨44, _⟩ => ⟨S_, .i32⟩
  | .hbm, ⟨45, _⟩ => ⟨S2048x1x1, .i32⟩
  | .hbm, ⟨46, _⟩ => ⟨S2048x1x1, .i1⟩
  | .hbm, ⟨47, _⟩ => ⟨S1x1x1, .i32⟩
  | .hbm, ⟨48, _⟩ => ⟨S2048x1x1, .i32⟩
  | .hbm, ⟨49, _⟩ => ⟨S2048x1x1, .i1⟩
  | .hbm, ⟨50, _⟩ => ⟨S2048x1x1, .i1⟩
  | .hbm, ⟨51, _⟩ => ⟨S_, .i1⟩
  | .hbm, ⟨52, _⟩ => ⟨S2048x1, .i1⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S2048, .f32⟩
  | .hbm, ⟨58, _⟩ => ⟨S_, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S_, .i32⟩
  | .hbm, ⟨63, _⟩ => ⟨S2048, .i32⟩
  | .hbm, ⟨64, _⟩ => ⟨S2048, .i1⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S2048, .i32⟩
  | .hbm, ⟨69, _⟩ => ⟨S2048x1, .i32⟩
  | .hbm, ⟨70, _⟩ => ⟨S2048x1024x1024, .f32⟩
  | .hbm, ⟨71, _⟩ => ⟨S2048x1024, .f32⟩
  | .hbm, ⟨72, _⟩ => ⟨S2048x1, .f32⟩
  | .hbm, ⟨73, _⟩ => ⟨S2048x1024, .f32⟩
  | .hbm, ⟨74, _⟩ => ⟨S2048x1024, .f32⟩
  | .hbm, ⟨75, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_v18 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v19 : Ref sig .tc := ⟨.hbm, 56, rfl⟩
abbrev main_v20 : Ref sig .tc := ⟨.hbm, 57, rfl⟩
abbrev main_cst_4 : Ref sig .tc := ⟨.hbm, 58, rfl⟩
abbrev main_call2_v0 : Ref sig .tc := ⟨.hbm, 59, rfl⟩
abbrev main_call2_v1 : Ref sig .tc := ⟨.hbm, 60, rfl⟩
abbrev main_v21 : Ref sig .tc := ⟨.hbm, 61, rfl⟩
abbrev main_c_5 : Ref sig .tc := ⟨.hbm, 62, rfl⟩
abbrev main_v22 : Ref sig .tc := ⟨.hbm, 63, rfl⟩
abbrev main_v23 : Ref sig .tc := ⟨.hbm, 64, rfl⟩
abbrev main_c_6 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== Proof.IdealProtocol.lean ====
/-
# The exchange of the mixture-of-experts kernel: values, cells and schedule

Four devices hold eight experts each. Every device computes its own experts' share of the result for all four row blocks,
sends the shares of the three other blocks to their owners, and adds the three shares it receives to its own.

The protocol, semaphore by semaphore (device `c`; `fwd k c` is the device `k` places after it):

* the barrier cell: three duties of one unit, duty `k` paid by device `fwd (3 - k) c`, that is the device whose signal number
  `k + 1` reaches `c`; it hands `c` that device's receive slot `2 - k`, whatever it holds, and that the device stands at
  round 0 of that slot's receive cell. `c` waits for all three units before its first remote copy;
* send cell `k`: one duty of a slot's credit, paid by `c`'s own copy number `k`; it hands back send slot `k`;
* receive cell `k`: one duty of a slot's credit, paid by device `fwd (3 - k) c`'s copy number `k`; it hands `c` receive slot `k`
  holding that device's share of `c`'s block.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.IdealMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's (duties numbered by `Fin 3`) and the local copies' counters -/

abbrev UX : Type := URounds (GSem nD τ sig) (Fin 3)
abbrev UU : Type := UR sig nD τ × (UX × Counters)

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) :=
  ((Emb.inl : Emb UX (UX × Counters)).trans (Emb.inr : Emb (UX × Counters) UU)).trans uEmb.toEmb

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The devices -/

/-- The device `k` places after `c` on the ring of four. -/
def fwd (k : Fin 4) (c : Dev nD) : Dev nD := c + k

theorem fwd13 (c : Dev nD) : fwd 1 (fwd 3 c) = c := by revert c; decide
theorem fwd31 (c : Dev nD) : fwd 3 (fwd 1 c) = c := by revert c; decide
theorem fwd22 (c : Dev nD) : fwd 2 (fwd 2 c) = c := by revert c; decide

/-- Going `1` place and `3` places are inverse; going `2` places is its own inverse. -/
def ring1 : Dev nD ≃ Dev nD := ⟨fwd 1, fwd 3, fwd31, fwd13⟩
def ring2 : Dev nD ≃ Dev nD := ⟨fwd 2, fwd 2, fwd22, fwd22⟩
def ring3 : Dev nD ≃ Dev nD := ⟨fwd 3, fwd 1, fwd13, fwd31⟩

theorem dev1_eq (c : Dev nD) : (⟨k0_dev1 c, k0_dev1_lt c⟩ : Dev nD) = fwd 1 c := by revert c; decide
theorem dev2_eq (c : Dev nD) : (⟨k0_dev2 c, k0_dev2_lt c⟩ : Dev nD) = fwd 2 c := by revert c; decide
theorem dev3_eq (c : Dev nD) : (⟨k0_dev3 c, k0_dev3_lt c⟩ : Dev nD) = fwd 3 c := by revert c; decide
theorem dev4_eq (c : Dev nD) : (⟨k0_dev4 c, k0_dev4_lt c⟩ : Dev nD) = fwd 1 c := by revert c; decide
theorem dev5_eq (c : Dev nD) : (⟨k0_dev5 c, k0_dev5_lt c⟩ : Dev nD) = fwd 2 c := by revert c; decide
theorem dev6_eq (c : Dev nD) : (⟨k0_dev6 c, k0_dev6_lt c⟩ : Dev nD) = fwd 3 c := by revert c; decide

/-! ## The values -/

/-- The word a device reads as its place on the ring. -/
def placeW (c : Dev nD) : BitVec 32 := Scalar.remsi (Scalar.divsi (Dev.word c) 1#32) 4#32

/-- The inputs as the body reads them on device `c`. -/
def xin (c : Dev nD) : Vec F S2048x1024 .f32 :=
  (win0_0.blk (0 : Fin 1)).view.read (Elt F) (m ((c : Thread nD τ).loc main_arg0))
def rwin (c : Dev nD) : Vec F S1024x32 .f32 :=
  (win0_1.blk (0 : Fin 1)).view.read (Elt F) (m ((c : Thread nD τ).loc main_arg1))
def idxin (c : Dev nD) : Vec F S2048x1 .i32 :=
  (win0_2.blk (0 : Fin 1)).view.read (Elt F) (m ((c : Thread nD τ).loc main_arg2))
def swin (c : Dev nD) : Vec F S1024x1024 .f32 :=
  (win0_3.blk (0 : Fin 1)).view.read (Elt F) (m ((c : Thread nD τ).loc main_arg4))

theorem inb_expert (j : Fin 8) : ∀ a, (![j.val, 0, 0] : Fin 3 → ℕ) a + S1x1024x1024.size a ≤ S8x1024x1024.size a := by
  revert j; decide

/-- Expert `j` of device `c`, as the local copy brings it in. -/
def expertIn (c : Dev nD) (j : Fin 8) : Vec F S1x1024x1024 .f32 :=
  (Memref.whole main_arg3 : Memref sig .tc .hbm S8x1024x1024 .f32).view.readAt (Elt F)
    (Rect.unit (s := S8x1024x1024) ![j.val, 0, 0] S1x1024x1024.size (inb_expert j)).toLoadRect
    (m ((c : Thread nD τ).loc main_arg3))

/-- The same rounded to the matrix unit's format, as the kernel keeps it. -/
def expert (c : Dev nD) (j : Fin 8) : Vec F S1x1024x1024 .bf16 := k0_pay6 (expertIn m c j)

/-- The rounded rows and the gates of device `c`'s eight experts, for every row. -/
def xb (c : Dev nD) : Vec F S2048x1024 .bf16 := k0_pay1 (xin m c)
def gates (c : Dev nD) : Vec F S2048x8 .f32 := k0_pay3 (placeW c) (k0_pay2 (xin m c) (rwin m c)) (idxin m c)

/-- The first row of the block of the device `k` places after `c`. -/
def rowOf (k : Fin 4) (c : Dev nD) : ℕ := 512 * (fwd k c).val

theorem rowOf_x (k : Fin 4) (c : Dev nD) : ∀ a, (![rowOf k c, 0] : Fin 2 → ℕ) a + S512x1024.size a ≤ S2048x1024.size a := by
  revert k c; decide
theorem rowOf_g (k : Fin 4) (c : Dev nD) : ∀ a, (![rowOf k c, 0] : Fin 2 → ℕ) a + S512x8.size a ≤ S2048x8.size a := by
  revert k c; decide

theorem off1_1 (c : Dev nD) : k0_off1 c 1#32 = ![rowOf 1 c, 0] := by revert c; decide
theorem off1_2 (c : Dev nD) : k0_off1 c 2#32 = ![rowOf 2 c, 0] := by revert c; decide
theorem off1_3 (c : Dev nD) : k0_off1 c 3#32 = ![rowOf 3 c, 0] := by revert c; decide
theorem off2_1 (c : Dev nD) : k0_off2 c 1#32 = ![rowOf 1 c, 0] := by revert c; decide
theorem off2_2 (c : Dev nD) : k0_off2 c 2#32 = ![rowOf 2 c, 0] := by revert c; decide
theorem off2_3 (c : Dev nD) : k0_off2 c 3#32 = ![rowOf 3 c, 0] := by revert c; decide
theorem off3_0 (c : Dev nD) : k0_off3 c = ![rowOf 0 c, 0] := by revert c; decide
theorem off4_0 (c : Dev nD) : k0_off4 c = ![rowOf 0 c, 0] := by revert c; decide

/-- The rows and the gates of the block of the device `k` places after `c`. -/
def xsOf (X : Vec F S2048x1024 .bf16) (k : Fin 4) (c : Dev nD) : Vec F S512x1024 .bf16 :=
  fun i => X ((Rect.unit (s := S2048x1024) ![rowOf k c, 0] S512x1024.size (rowOf_x k c)).toLoadRect.idx i)
def gsOf (G : Vec F S2048x8 .f32) (k : Fin 4) (c : Dev nD) : Vec F S512x8 .f32 :=
  fun i => G ((Rect.unit (s := S2048x8) ![rowOf k c, 0] S512x8.size (rowOf_g k c)).toLoadRect.idx i)

/-- The three shares a device sends, from a block's rows and gates and its own eight experts, added as the kernel adds. -/
def share1 (x : Vec F S512x1024 .bf16) (g : Vec F S512x8 .f32) (w : Fin 8 → Vec F S1x1024x1024 .bf16) : Vec F S1x512x1024 .bf16 :=
  k0_pay33 x g (k0_pay29 x g (k0_pay27 x g (k0_pay23 x g (k0_pay18 x g (k0_pay13 x g (k0_pay10 x g
    (k0_pay7 x g k0_pay4 (w 0)) (w 1)) (w 2)) (w 3)) (w 4)) (w 5)) (w 6)) (w 7)
def share2 (x : Vec F S512x1024 .bf16) (g : Vec F S512x8 .f32) (w : Fin 8 → Vec F S1x1024x1024 .bf16) : Vec F S1x512x1024 .bf16 :=
  k0_pay34 (k0_pay32 x g (k0_pay30 x g (k0_pay25 x (k0_pay21 x (k0_pay16 (k0_pay11 x g (k0_pay8 x g k0_pay5 (w 0)) (w 1))
    (k0_pay14 x (w 2)) (k0_pay15 g)) (k0_pay19 g) (k0_pay20 (w 3))) (k0_pay24 g) (w 4)) (w 5) (w 6)) (w 7))
def share3 (x : Vec F S512x1024 .bf16) (g : Vec F S512x8 .f32) (w : Fin 8 → Vec F S1x1024x1024 .bf16) : Vec F S1x512x1024 .bf16 :=
  k0_pay40 x g (k0_pay38 x g k0_pay35 (k0_pay36 g) (k0_pay37 (w 0)) (constant S512x1024 .f32 0x00000000#32)
    (w 1) (w 2) (w 3) (w 4) (w 5)) (k0_pay39 g) (w 6) (w 7)
/-- A device's share of its own block, the shared expert's product first. -/
def share0 (x : Vec F S512x1024 .bf16) (g : Vec F S512x8 .f32) (s : Vec F S1024x1024 .f32) (w : Fin 8 → Vec F S1x1024x1024 .bf16) :
    FVec F S512x1024 .f32 :=
  k0_pay43 x g (k0_pay41 x g s (w 0) (w 1) (w 2)) (k0_pay42 g) (w 3) (w 4) (w 5) (w 6) (w 7)

/-- What device `c` puts in send slot `k`. -/
def sent (c : Dev nD) : Fin 3 → Vec F S1x512x1024 .bf16
  | 0 => share1 (xsOf (xb m c) 1 c) (gsOf (gates m c) 1 c) (expert m c)
  | 1 => share2 (xsOf (xb m c) 2 c) (gsOf (gates m c) 2 c) (expert m c)
  | 2 => share3 (xsOf (xb m c) 3 c) (gsOf (gates m c) 3 c) (expert m c)

/-- The device whose copy lands in receive slot `k` of device `c`. -/
def from_ (k : Fin 3) (c : Dev nD) : Dev nD := match k with | 0 => fwd 3 c | 1 => fwd 2 c | 2 => fwd 1 c

/-- What device `c` stores as its result. -/
def outAt (c : Dev nD) : Vec F S512x1024 .f32 :=
  k0_pay45 (k0_pay44 (share0 (xsOf (xb m c) 0 c) (gsOf (gates m c) 0 c) (swin m c) (expert m c)) (sent m (fwd 3 c) 0))
    (sent m (fwd 2 c) 1) (sent m (fwd 1 c) 2)

/-! ## The memrefs and cells -/

abbrev sM : Memref sig .tc .vmem S3x512x1024 .bf16 := Memref.whole cc0_scratch4
abbrev rM : Memref sig .tc .vmem S3x512x1024 .bf16 := Memref.whole cc0_scratch5
abbrev gM : Memref sig .tc .vmem S2x1024x1024 .f32 := Memref.whole cc0_scratch3
abbrev eM : Memref sig .tc .hbm S8x1024x1024 .f32 := Memref.whole main_arg3

abbrev R0 : Rect S3x512x1024 := Rect.unit (s := S3x512x1024) ![0, 0, 0] S1x512x1024.size inb_S3x512x1024_S1x512x1024_0_0_0
abbrev R1 : Rect S3x512x1024 := Rect.unit (s := S3x512x1024) ![1, 0, 0] S1x512x1024.size inb_S3x512x1024_S1x512x1024_1_0_0
abbrev R2 : Rect S3x512x1024 := Rect.unit (s := S3x512x1024) ![2, 0, 0] S1x512x1024.size inb_S3x512x1024_S1x512x1024_2_0_0
abbrev RS (k : Fin 3) : Rect S3x512x1024 := match k with | 0 => R0 | 1 => R1 | 2 => R2

abbrev sS0 : Memref sig .tc .vmem S512x1024 .bf16 := (sM.slice R0 (fun _ => rfl)).squeeze S512x1024 squeezes_S1x512x1024_S512x1024
abbrev sS1 : Memref sig .tc .vmem S512x1024 .bf16 := (sM.slice R1 (fun _ => rfl)).squeeze S512x1024 squeezes_S1x512x1024_S512x1024
abbrev sS2 : Memref sig .tc .vmem S512x1024 .bf16 := (sM.slice R2 (fun _ => rfl)).squeeze S512x1024 squeezes_S1x512x1024_S512x1024
abbrev rS0 : Memref sig .tc .vmem S512x1024 .bf16 := (rM.slice R0 (fun _ => rfl)).squeeze S512x1024 squeezes_S1x512x1024_S512x1024
abbrev rS1 : Memref sig .tc .vmem S512x1024 .bf16 := (rM.slice R1 (fun _ => rfl)).squeeze S512x1024 squeezes_S1x512x1024_S512x1024
abbrev rS2 : Memref sig .tc .vmem S512x1024 .bf16 := (rM.slice R2 (fun _ => rfl)).squeeze S512x1024 squeezes_S1x512x1024_S512x1024

/-- The runtime's barrier semaphore (not scoped to the launch) and the kernel's own copy semaphores. -/
abbrev barS : Sem sig := (SemArray.scalar (sig.barrier 0 rfl) : Sems sig S_).sem
abbrev copyS0 : DmaSem sig := ((cc0_scratch6.slice (Rect.unit (s := S2) ![0] S1.size inb_S2_S1_0)).squeeze S_ squeezes_S1_S_).sem
abbrev copyS1 : DmaSem sig := ((cc0_scratch6.slice (Rect.unit (s := S2) ![1] S1.size inb_S2_S1_1)).squeeze S_ squeezes_S1_S_).sem
abbrev sendS0 : DmaSem sig := ((cc0_scratch7.slice (Rect.unit (s := S3) ![0] S1.size inb_S3_S1_0)).squeeze S_ squeezes_S1_S_).sem
abbrev sendS1 : DmaSem sig := ((cc0_scratch7.slice (Rect.unit (s := S3) ![1] S1.size inb_S3_S1_1)).squeeze S_ squeezes_S1_S_).sem
abbrev sendS2 : DmaSem sig := ((cc0_scratch7.slice (Rect.unit (s := S3) ![2] S1.size inb_S3_S1_2)).squeeze S_ squeezes_S1_S_).sem
abbrev recvS0 : DmaSem sig := ((cc0_scratch8.slice (Rect.unit (s := S3) ![0] S1.size inb_S3_S1_0)).squeeze S_ squeezes_S1_S_).sem
abbrev recvS1 : DmaSem sig := ((cc0_scratch8.slice (Rect.unit (s := S3) ![1] S1.size inb_S3_S1_1)).squeeze S_ squeezes_S1_S_).sem
abbrev recvS2 : DmaSem sig := ((cc0_scratch8.slice (Rect.unit (s := S3) ![2] S1.size inb_S3_S1_2)).squeeze S_ squeezes_S1_S_).sem

/-- The seven cells of a device that the exchange runs on: barrier, three send, three receive. -/
abbrev csem : Fin 7 → SemLoc sig
  | 0 => .reg barS | 1 => .dma sendS0 | 2 => .dma sendS1 | 3 => .dma sendS2 | 4 => .dma recvS0 | 5 => .dma recvS1 | 6 => .dma recvS2
/-- The kernel's own semaphores as the launch numbers them: two for the local copies, three send, three receive. -/
abbrev osem : Fin 8 → SemLoc sig
  | 0 => .dma copyS0 | 1 => .dma copyS1 | 2 => .dma sendS0 | 3 => .dma sendS1 | 4 => .dma sendS2 | 5 => .dma recvS0 | 6 => .dma recvS1 | 7 => .dma recvS2

abbrev kcell (ck : Dev nD × Fin 7) : GSem nD τ sig := ((ck.1 : Thread nD τ), csem ck.2)
abbrev barCell (c : Dev nD) : GSem nD τ sig := ((c : Thread nD τ), .reg barS)
abbrev sendCell (c : Dev nD) (k : Fin 3) : GSem nD τ sig :=
  match k with
  | 0 => ((c : Thread nD τ), .dma sendS0) | 1 => ((c : Thread nD τ), .dma sendS1) | 2 => ((c : Thread nD τ), .dma sendS2)
abbrev recvCell (c : Dev nD) (k : Fin 3) : GSem nD τ sig :=
  match k with
  | 0 => ((c : Thread nD τ), .dma recvS0) | 1 => ((c : Thread nD τ), .dma recvS1) | 2 => ((c : Thread nD τ), .dma recvS2)

/-- Which of the seven a semaphore is; seven for any other. -/
def role (sm : SemLoc sig) : Fin 8 :=
  if sm = .reg barS then 0 else if sm = .dma sendS0 then 1 else if sm = .dma sendS1 then 2 else if sm = .dma sendS2 then 3
  else if sm = .dma recvS0 then 4 else if sm = .dma recvS1 then 5 else if sm = .dma recvS2 then 6 else 7

theorem role_csem (k : Fin 7) : role (csem k) = k.castSucc := by revert k; decide

/-- A slot's credit. -/
abbrev N : ℕ := (rS0 : Memref sig .tc .vmem S512x1024 .bf16).view.dmaCredit
theorem N_pos : 0 < N := View.dmaCredit_pos _ (by decide)

/-! ## The slots' resources -/

/-- Slot `k` of a device's send and receive buffers, held at a buffer's contents there. -/
def sPts (c : Dev nD) (k : Fin 3) (f : Buf (Elt F) ((c : Thread nD τ).loc cc0_scratch4)) : sProp 𝕄 :=
  match k with
  | 0 => sS0.view.loc (c : Thread nD τ) ↦[sS0.view.set]{fullShare} f
  | 1 => sS1.view.loc (c : Thread nD τ) ↦[sS1.view.set]{fullShare} f
  | 2 => sS2.view.loc (c : Thread nD τ) ↦[sS2.view.set]{fullShare} f
def rPts (c : Dev nD) (k : Fin 3) (f : Buf (Elt F) ((c : Thread nD τ).loc cc0_scratch5)) : sProp 𝕄 :=
  match k with
  | 0 => rS0.view.loc (c : Thread nD τ) ↦[rS0.view.set]{fullShare} f
  | 1 => rS1.view.loc (c : Thread nD τ) ↦[rS1.view.set]{fullShare} f
  | 2 => rS2.view.loc (c : Thread nD τ) ↦[rS2.view.set]{fullShare} f

/-- What a buffer of three slots reads at slot `k`. -/
def rdS (k : Fin 3) (f : (cc0_scratch4 : Ref sig .tc).ty.Contents (Elt F)) : Vec F S1x512x1024 .bf16 :=
  match k with
  | 0 => sM.view.readAt (Elt F) R0.toLoadRect f
  | 1 => sM.view.readAt (Elt F) R1.toLoadRect f
  | 2 => sM.view.readAt (Elt F) R2.toLoadRect f
def rdR (k : Fin 3) (f : (cc0_scratch5 : Ref sig .tc).ty.Contents (Elt F)) : Vec F S1x512x1024 .bf16 :=
  match k with
  | 0 => rM.view.readAt (Elt F) R0.toLoadRect f
  | 1 => rM.view.readAt (Elt F) R1.toLoadRect f
  | 2 => rM.view.readAt (Elt F) R2.toLoadRect f

/-- The barrier's duty `k` at device `c`: the payer's receive slot and its place at round 0 of that slot's cell. -/
def barPay (c : Dev nD) (k : Fin 3) : sProp 𝕄 :=
  match k with
  | 0 => iprop((∃ f, rPts (fwd 3 c) 2 f) ∗ reached EX (recvCell (fwd 3 c) 2) 0)
  | 1 => iprop((∃ f, rPts (fwd 2 c) 1 f) ∗ reached EX (recvCell (fwd 2 c) 1) 0)
  | 2 => iprop((∃ f, rPts (fwd 1 c) 0 f) ∗ reached EX (recvCell (fwd 1 c) 0) 0)
/-- A send cell's duty: the slot back. -/
def sendPay (c : Dev nD) (k : Fin 3) : sProp 𝕄 := iprop(∃ f, sPts c k f)
/-- A receive cell's duty: the slot holding what the sender computed for this device. -/
def recvPay (c : Dev nD) (k : Fin 3) : sProp 𝕄 := iprop(∃ f, ⌜rdR k f = sent m (from_ k c) k⌝ ∗ rPts c k f)

instance sPts_storable (c : Dev nD) (k : Fin 3) (f) : BI.Storable (upEmb : UEmb _ 𝕄) (sPts (F := F) c k f) := by
  unfold sPts; split <;> infer_instance
instance rPts_storable (c : Dev nD) (k : Fin 3) (f) : BI.Storable (upEmb : UEmb _ 𝕄) (rPts (F := F) c k f) := by
  unfold rPts; split <;> infer_instance
instance barPay_storable (c : Dev nD) (k : Fin 3) : BI.Storable (upEmb : UEmb _ 𝕄) (barPay (F := F) c k) := by
  unfold barPay; split <;> infer_instance
instance sendPay_storable (c : Dev nD) (k : Fin 3) : BI.Storable (upEmb : UEmb _ 𝕄) (sendPay (F := F) c k) := by
  unfold sendPay; infer_instance
instance recvPay_storable (c : Dev nD) (k : Fin 3) : BI.Storable (upEmb : UEmb _ 𝕄) (recvPay m c k) := by
  unfold recvPay; infer_instance

/-! ## The schedule -/

/-- A cell's duties by its role. -/
def dutiesOf (r : Fin 8) : Finset (Fin 3) := match r with | 0 => Finset.univ | 7 => ∅ | _ => {0}
/-- What a duty hands over, by the cell's role. -/
def payOf (c : Dev nD) (r : Fin 8) (d : Fin 3) : sProp 𝕄 :=
  match r with
  | 0 => barPay c d | 1 => sendPay c 0 | 2 => sendPay c 1 | 3 => sendPay c 2
  | 4 => recvPay m c 0 | 5 => recvPay m c 1 | 6 => recvPay m c 2 | 7 => iprop(emp)

instance payOf_storable (c : Dev nD) (r : Fin 8) (d : Fin 3) : BI.Storable (upEmb : UEmb _ 𝕄) (payOf m c r d) := by
  unfold payOf; split <;> infer_instance

/-- What a duty is worth: a unit at the barrier, a slot's credit elsewhere. -/
def amountAt (r : Fin 8) : ℕ := match r with | 0 => 1 | _ => N

theorem amountAt_pos (r : Fin 8) : 0 < amountAt r := by
  unfold amountAt; split
  · exact Nat.one_pos
  · exact N_pos

/-- One round per cell. -/
def sched : Rounds.Schedule (GSem nD τ sig) (Fin 3) 𝕄 where
  duties g r := if r = 0 ∧ g.1.2 = .tc then dutiesOf (role g.2) else ∅
  unitless _ := False
  amount g _ _ := amountAt (role g.2)
  payload g _ d := payOf m g.1.1 (role g.2) d
  amount_pos g _ _ _ := amountAt_pos _

instance sched_payload_storable (g : GSem nD τ sig) (r : ℕ) (d : Fin 3) :
    BI.Storable (upEmb : UEmb _ 𝕄) ((sched m).payload g r d) := by
  show BI.Storable upEmb (payOf m g.1.1 (role g.2) d); infer_instance

theorem role_bar : role (.reg barS) = 0 := role_csem 0
theorem role_s0 : role (.dma sendS0) = 1 := role_csem 1
theorem role_s1 : role (.dma sendS1) = 2 := role_csem 2
theorem role_s2 : role (.dma sendS2) = 3 := role_csem 3
theorem role_r0 : role (.dma recvS0) = 4 := role_csem 4
theorem role_r1 : role (.dma recvS1) = 5 := role_csem 5
theorem role_r2 : role (.dma recvS2) = 6 := role_csem 6

section Tables
variable (c : Dev nD)

theorem duties_tc (sm : SemLoc sig) : (sched m).duties ((c : Thread nD τ), sm) 0 = dutiesOf (role sm) := by
  unfold sched; dsimp only; exact if_pos ⟨rfl, rfl⟩
theorem duties_bar : (sched m).duties (barCell c) 0 = Finset.univ := by
  rw [duties_tc, role_bar]; rfl
theorem duties_send (k : Fin 3) : (sched m).duties (sendCell c k) 0 = {0} := by
  fin_cases k
  · exact (duties_tc m c (.dma sendS0)).trans (by rw [role_s0]; rfl)
  · exact (duties_tc m c (.dma sendS1)).trans (by rw [role_s1]; rfl)
  · exact (duties_tc m c (.dma sendS2)).trans (by rw [role_s2]; rfl)
theorem duties_recv (k : Fin 3) : (sched m).duties (recvCell c k) 0 = {0} := by
  fin_cases k
  · exact (duties_tc m c (.dma recvS0)).trans (by rw [role_r0]; rfl)
  · exact (duties_tc m c (.dma recvS1)).trans (by rw [role_r1]; rfl)
  · exact (duties_tc m c (.dma recvS2)).trans (by rw [role_r2]; rfl)
theorem duties_later (g : GSem nD τ sig) : ∀ r, 1 ≤ r → (sched m).duties g r = ∅ :=
  fun r hr => if_neg fun h => by omega

theorem amount_bar (d : Fin 3) : (sched m).amount (barCell c) 0 d = 1 := by
  show amountAt (role (.reg barS)) = _; rw [role_bar]; rfl
theorem amount_send (k d : Fin 3) : (sched m).amount (sendCell c k) 0 d = N := by
  fin_cases k
  · show amountAt (role (.dma sendS0)) = _; rw [role_s0]; rfl
  · show amountAt (role (.dma sendS1)) = _; rw [role_s1]; rfl
  · show amountAt (role (.dma sendS2)) = _; rw [role_s2]; rfl
theorem amount_recv (k d : Fin 3) : (sched m).amount (recvCell c k) 0 d = N := by
  fin_cases k
  · show amountAt (role (.dma recvS0)) = _; rw [role_r0]; rfl
  · show amountAt (role (.dma recvS1)) = _; rw [role_r1]; rfl
  · show amountAt (role (.dma recvS2)) = _; rw [role_r2]; rfl

theorem expect_bar : (sched m).expect (barCell c) 0 = 3 := by
  unfold Schedule.expect Schedule.amountOf
  rw [duties_bar, Finset.sum_congr rfl fun d _ => amount_bar m c d, Finset.sum_const, Finset.card_univ, Fintype.card_fin, smul_eq_mul]
theorem expect_send (k : Fin 3) : (sched m).expect (sendCell c k) 0 = N := by
  unfold Schedule.expect Schedule.amountOf; rw [duties_send, Finset.sum_singleton, amount_send]
theorem expect_recv (k : Fin 3) : (sched m).expect (recvCell c k) 0 = N := by
  unfold Schedule.expect Schedule.amountOf; rw [duties_recv, Finset.sum_singleton, amount_recv]

theorem payload_bar (d : Fin 3) : (sched m).payload (barCell c) 0 d = barPay c d := by
  show payOf m c (role (.reg barS)) d = _; rw [role_bar]; rfl
theorem payload_send (k d : Fin 3) : (sched m).payload (sendCell c k) 0 d = sendPay c k := by
  fin_cases k
  · show payOf m c (role (.dma sendS0)) d = _; rw [role_s0]; rfl
  · show payOf m c (role (.dma sendS1)) d = _; rw [role_s1]; rfl
  · show payOf m c (role (.dma sendS2)) d = _; rw [role_s2]; rfl
theorem payload_recv (k d : Fin 3) : (sched m).payload (recvCell c k) 0 d = recvPay m c k := by
  fin_cases k
  · show payOf m c (role (.dma recvS0)) d = _; rw [role_r0]; rfl
  · show payOf m c (role (.dma recvS1)) d = _; rw [role_r1]; rfl
  · show payOf m c (role (.dma recvS2)) d = _; rw [role_r2]; rfl

/-- All that a cell's round hands over. -/
theorem rest_bar : bigSep ((sched m).duties (barCell c) 0 \ ∅) (fun d => (sched m).payload (barCell c) 0 d)
    = iprop(barPay c 0 ∗ barPay c 1 ∗ barPay (F := F) c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send (k : Fin 3) : bigSep ((sched m).duties (sendCell c k) 0 \ ∅) (fun d => (sched m).payload (sendCell c k) 0 d)
    = sendPay (F := F) c k := by
  rw [Finset.sdiff_empty, duties_send, bigSep_singleton, payload_send]
theorem rest_recv (k : Fin 3) : bigSep ((sched m).duties (recvCell c k) 0 \ ∅) (fun d => (sched m).payload (recvCell c k) 0 d)
    = recvPay m c k := by
  rw [Finset.sdiff_empty, duties_recv, bigSep_singleton, payload_recv]

end Tables

/-! ## What each device owes at launch; the levels -/

/-- The three landings a device owes, the last sent first; then the three signals, the first sent last. -/
def O3 (c : Dev nD) : CellTallies nD τ sig Unit := tallyAt (recvCell (fwd 3 c) 2) () N
def O2 (c : Dev nD) : CellTallies nD τ sig Unit := O3 c + tallyAt (recvCell (fwd 2 c) 1) () N
def O1 (c : Dev nD) : CellTallies nD τ sig Unit := O2 c + tallyAt (recvCell (fwd 1 c) 0) () N
def OB3 (c : Dev nD) : CellTallies nD τ sig Unit := O1 c + tallyAt (barCell (fwd 3 c)) () 1
def OB2 (c : Dev nD) : CellTallies nD τ sig Unit := OB3 c + tallyAt (barCell (fwd 2 c)) () 1
def O₀ (c : Dev nD) : CellTallies nD τ sig Unit := OB2 c + tallyAt (barCell (fwd 1 c)) () 1

def L (g : GSem nD τ sig) : Finset Unit := if g.1.2 = .tc then {()} else ∅
/-- Barrier cells at 1, receive cells at 2, everything else at 0. -/
def lv (g : GSem nD τ sig) (_ : Unit) : ℕ := if role g.2 = 0 then 1 else if 4 ≤ role g.2 ∧ role g.2 ≤ 6 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos role_bar
theorem lv_recv (c : Dev nD) (k : Fin 3) : lv (recvCell c k) () = 2 := by
  unfold lv
  fin_cases k
  · show (if role (.dma recvS0) = 0 then _ else if 4 ≤ role (.dma recvS0) ∧ role (.dma recvS0) ≤ 6 then _ else _) = _; rw [role_r0]; rfl
  · show (if role (.dma recvS1) = 0 then _ else if 4 ≤ role (.dma recvS1) ∧ role (.dma recvS1) ≤ 6 then _ else _) = _; rw [role_r1]; rfl
  · show (if role (.dma recvS2) = 0 then _ else if 4 ≤ role (.dma recvS2) ∧ role (.dma recvS2) ≤ 6 then _ else _) = _; rw [role_r2]; rfl
theorem L_recv (c : Dev nD) (k : Fin 3) : L (recvCell c k) = {()} := by fin_cases k <;> exact L_tc c _

/-- What is owed is a positive tally at one of the cells named. -/
theorem tally_pos {O : CellTallies nD τ sig Unit} {g₀ g : GSem nD τ sig} {n : ℕ} {u : Unit} (h : 0 < (O + tallyAt g₀ () n) g u) :
    0 < O g u ∨ g = g₀ := by
  rw [Pi.add_apply, Finsupp.add_apply, tallyAt_apply] at h
  by_cases hg : g = g₀
  · exact Or.inr hg
  · rw [if_neg (fun h' => hg h'.1)] at h; exact Or.inl h

theorem O1_pos {c : Dev nD} {g : GSem nD τ sig} {u : Unit} (h : 0 < O1 c g u) : ∃ d k, g = recvCell d k := by
  rcases tally_pos h with h | h
  · rcases tally_pos h with h | h
    · unfold O3 at h; rw [tallyAt_apply] at h
      by_cases hg : g = recvCell (fwd 3 c) 2
      · exact ⟨_, _, hg⟩
      · rw [if_neg (fun h' => hg h'.1)] at h; exact absurd h (Nat.lt_irrefl 0)
    · exact ⟨_, _, h⟩
  · exact ⟨_, _, h⟩
theorem O₀_pos {c : Dev nD} {g : GSem nD τ sig} {u : Unit} (h : 0 < O₀ c g u) : (∃ d k, g = recvCell d k) ∨ ∃ d, g = barCell d := by
  rcases tally_pos h with h | h
  · rcases tally_pos h with h | h
    · rcases tally_pos h with h | h
      · exact Or.inl (O1_pos h)
      · exact Or.inr ⟨_, h⟩
    · exact Or.inr ⟨_, h⟩
  · exact Or.inr ⟨_, h⟩

/-- A cell below the barriers may be waited on whatever is owed of the launch's debt. -/
theorem mayWait_low (c : Dev nD) (q : DmaSem sig) (hq : role (.dma q) = 7) (O : CellTallies nD τ sig Unit)
    (hO : O = O₀ c ∨ O = O1 c ∨ O = 0) : (levAts L lv : sProp 𝕄) ⊢ MayWait (c : Thread nD τ) (.dma q) () O := by
  have key (O : CellTallies nD τ sig Unit) (hp : ∀ g u, 0 < O g u → (∃ d k, g = recvCell d k) ∨ ∃ d, g = barCell d) :
      (levAts L lv : sProp 𝕄) ⊢ MayWait (c : Thread nD τ) (.dma q) () O :=
    MayOwe.of_cut (L := L) (lev := lv) 0 (fun p hp => by rw [Finset.mem_singleton.mp hp, L_tc]; exact Finset.mem_singleton_self _)
      (fun g u hg => by
        rcases hp g u hg with ⟨d, k, rfl⟩ | ⟨d, rfl⟩
        · rw [L_recv]; exact Finset.mem_singleton_self _
        · exact Finset.mem_singleton_self _)
      (fun p hp => by
        rw [Finset.mem_singleton.mp hp]
        show lv ((c : Thread nD τ), .dma q) () ≤ 0
        unfold lv; dsimp only; rw [hq]; decide)
      (fun g u hg => by
        rcases hp g u hg with ⟨d, k, rfl⟩ | ⟨d, rfl⟩
        · rw [lv_recv]; decide
        · rw [lv_bar]; decide)
  rcases hO with rfl | rfl | rfl
  · exact key _ fun g u h => O₀_pos h
  · exact key _ fun g u h => Or.inl (O1_pos h)
  · rw [MayWait_zero]; iintro -; iempintro

/-- At its barrier wait a device owes landings only. -/
theorem mayWait_bar (c : Dev nD) : (levAts L lv : sProp 𝕄) ⊢ MayWait (c : Thread nD τ) (.reg barS) () (O1 c) :=
  MayOwe.of_cut (L := L) (lev := lv) 1 (fun p hp => by rw [Finset.mem_singleton.mp hp, L_tc]; exact Finset.mem_singleton_self _)
    (fun g u hg => by obtain ⟨d, k, rfl⟩ := O1_pos hg; rw [L_recv]; exact Finset.mem_singleton_self _)
    (fun p hp => by rw [Finset.mem_singleton.mp hp]; exact le_of_eq (lv_bar c))
    (fun g u hg => by obtain ⟨d, k, rfl⟩ := O1_pos hg; rw [lv_recv]; decide)

/-! ## What a device's body starts from -/

/-- The invariants a device opens: all seven of its own cells, the three peers' barrier cells and the receive cells its copies land on. -/
def invs (K : Dev nD × Fin 7 → ℕ) (c : Dev nD) : sProp 𝕄 :=
  iprop(cellInv EX (sched m) (K (c, 0)) (barCell c)
    ∗ cellInv EX (sched m) (K (c, 1)) (sendCell c 0) ∗ cellInv EX (sched m) (K (c, 2)) (sendCell c 1) ∗ cellInv EX (sched m) (K (c, 3)) (sendCell c 2)
    ∗ cellInv EX (sched m) (K (c, 4)) (recvCell c 0) ∗ cellInv EX (sched m) (K (c, 5)) (recvCell c 1) ∗ cellInv EX (sched m) (K (c, 6)) (recvCell c 2)
    ∗ cellInv EX (sched m) (K (fwd 1 c, 0)) (barCell (fwd 1 c)) ∗ cellInv EX (sched m) (K (fwd 2 c, 0)) (barCell (fwd 2 c))
    ∗ cellInv EX (sched m) (K (fwd 3 c, 0)) (barCell (fwd 3 c))
    ∗ cellInv EX (sched m) (K (fwd 1 c, 4)) (recvCell (fwd 1 c) 0) ∗ cellInv EX (sched m) (K (fwd 2 c, 5)) (recvCell (fwd 2 c) 1)
    ∗ cellInv EX (sched m) (K (fwd 3 c, 6)) (recvCell (fwd 3 c) 2))

instance invs_persistent (K : Dev nD × Fin 7 → ℕ) (c : Dev nD) : BI.Persistent (invs m K c) := by unfold invs; infer_instance

/-- The rounds already reached that a device relies on. -/
def marks (c : Dev nD) : sProp 𝕄 :=
  iprop(reached EX (barCell (fwd 1 c)) 0 ∗ reached EX (barCell (fwd 2 c)) 0 ∗ reached EX (barCell (fwd 3 c)) 0
    ∗ reached EX (sendCell c 0) 0 ∗ reached EX (sendCell c 1) 0 ∗ reached EX (sendCell c 2) 0
    ∗ reached EX (recvCell c 0) 0 ∗ reached EX (recvCell c 1) 0 ∗ reached EX (recvCell c 2) 0)

instance marks_persistent (c : Dev nD) : BI.Persistent (marks (F := F) c) := by unfold marks; infer_instance

/-- A device's places at its own seven cells. -/
def places (c : Dev nD) : sProp 𝕄 :=
  iprop(atPos EX (barCell c) 0 ∅ 0 ∗ atPos EX (sendCell c 0) 0 ∅ 0 ∗ atPos EX (sendCell c 1) 0 ∅ 0 ∗ atPos EX (sendCell c 2) 0 ∅ 0
    ∗ atPos EX (recvCell c 0) 0 ∅ 0 ∗ atPos EX (recvCell c 1) 0 ∅ 0 ∗ atPos EX (recvCell c 2) 0 ∅ 0)

/-- The duties a device pays: the three barriers, the three landings, its own three send cells. -/
def payToks (c : Dev nD) : sProp 𝕄 :=
  iprop(dutyTok EX (barCell (fwd 1 c)) 0 0 ∗ dutyTok EX (barCell (fwd 2 c)) 0 1 ∗ dutyTok EX (barCell (fwd 3 c)) 0 2
    ∗ dutyTok EX (recvCell (fwd 1 c) 0) 0 0 ∗ dutyTok EX (recvCell (fwd 2 c) 1) 0 0 ∗ dutyTok EX (recvCell (fwd 3 c) 2) 0 0
    ∗ dutyTok EX (sendCell c 0) 0 0 ∗ dutyTok EX (sendCell c 1) 0 0 ∗ dutyTok EX (sendCell c 2) 0 0)

def ghost (K : Dev nD × Fin 7 → ℕ) (c : Dev nD) : sProp 𝕄 := iprop(invs m K c ∗ marks c ∗ places c ∗ payToks c)

/-- The credits a device waits with. -/
def credits (c : Dev nD) : sProp 𝕄 :=
  iprop(cred (tallyAt (barCell c) () 3) ∗ cred (tallyAt (recvCell c 0) () N) ∗ cred (tallyAt (recvCell c 1) () N) ∗ cred (tallyAt (recvCell c 2) () N))

/-- The two local copy cells at zero. -/
def copies (c : Dev nD) : sProp 𝕄 := iprop(semVal ((c : Thread nD τ), .dma copyS0) 0 ∗ semVal ((c : Thread nD τ), .dma copyS1) 0)

end Cert.IdealMoe

end
-- ==== Proof.IdealValues.lean ====
/-
# The mixture-of-experts body, run on one device

The body is run once, at a symbolic device, from what the launch deals it: its input blocks, its scratch buffers cut into the
slots that travel, its places at its own cells and the tokens for what it pays to the other three devices.
-/
module

public import proofs.«01_k».proof.Proof.IdealProtocol
public import Idealize.ShloMosaic.Lib.WritesUnit
public import Idealize.ShloMosaic.Lib.VecWindow

@[expose] public section

set_option maxRecDepth 16384

noncomputable section

namespace Cert.IdealMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The two slots the local copies bring experts into. -/
abbrev gS0 : Memref sig .tc .vmem S1024x1024 .f32 :=
  (gM.slice (Rect.unit (s := S2x1024x1024) ![0, 0, 0] S1x1024x1024.size inb_S2x1024x1024_S1x1024x1024_0_0_0) (fun _ => rfl)).squeeze S1024x1024 squeezes_S1x1024x1024_S1024x1024
abbrev gS1 : Memref sig .tc .vmem S1024x1024 .f32 :=
  (gM.slice (Rect.unit (s := S2x1024x1024) ![1, 0, 0] S1x1024x1024.size inb_S2x1024x1024_S1x1024x1024_1_0_0) (fun _ => rfl)).squeeze S1024x1024 squeezes_S1x1024x1024_S1024x1024

/-- A copy of a slot reads at its destination what the source reads. -/
theorem landed_of {vd vs : Vec F S512x1024 .bf16} {xd xs : Vec F S1x512x1024 .bf16}
    (hd : vd = shapeCast S512x1024 xd shapeCasts_S1x512x1024_S512x1024) (hs : vs = shapeCast S512x1024 xs shapeCasts_S1x512x1024_S512x1024)
    (h : vd = vs) : xd = xs := by
  have e : shapeCast S1x512x1024 (shapeCast S512x1024 xd shapeCasts_S1x512x1024_S512x1024) shapeCasts_S512x1024_S1x512x1024 = shapeCast S1x512x1024 (shapeCast S512x1024 xs shapeCasts_S1x512x1024_S512x1024) shapeCasts_S512x1024_S1x512x1024 := by rw [← hd, ← hs, h]
  rwa [shapeCast_shapeCast, shapeCast_shapeCast] at e

/-- A copied expert's slot, read as the body loads it. -/
theorem squeezed_of {vd vs : Vec F S1024x1024 .f32} {xd xs : Vec F S1x1024x1024 .f32}
    (hd : vd = shapeCast S1024x1024 xd shapeCasts_S1x1024x1024_S1024x1024) (hs : vs = shapeCast S1024x1024 xs shapeCasts_S1x1024x1024_S1024x1024)
    (h : vd = vs) : xd = xs := by
  have e : shapeCast S1x1024x1024 (shapeCast S1024x1024 xd shapeCasts_S1x1024x1024_S1024x1024) shapeCasts_S1024x1024_S1x1024x1024 = shapeCast S1x1024x1024 (shapeCast S1024x1024 xs shapeCasts_S1x1024x1024_S1024x1024) shapeCasts_S1024x1024_S1x1024x1024 := by rw [← hd, ← hs, h]
  rwa [shapeCast_shapeCast, shapeCast_shapeCast] at e

/-- Expert `j` as the local copy's source reads it. -/
abbrev eS (j : Fin 8) : Memref sig .tc .hbm S1024x1024 .f32 :=
  (eM.slice (Rect.unit (s := S8x1024x1024) ![j.val, 0, 0] S1x1024x1024.size (inb_expert j)) (fun _ => rfl)).squeeze S1024x1024 squeezes_S1x1024x1024_S1024x1024

theorem read_writes_whole_cons {sp : Space} {s : Shape} {e : EltTy} (v : View sig .tc sp s e) (f : v.ty.Contents (Elt F)) (w : s.Idx → Elt F e)
    (L : List (View.Piece (Elt F) s e)) : v.read (Elt F) (v.writes (Elt F) f (⟨Rect.whole s, w⟩ :: L)) = w := by
  funext y
  exact View.read_writes_cons_unit_of_mem v f _ w L y y rfl fun a => by simp [Rect.whole]

theorem stage0 (c : Dev nD) (j : Fin 8) (f : (cc0_scratch3 : Ref sig .tc).ty.Contents (Elt F)) (L : List (View.Piece (Elt F) S1024x1024 .f32)) :
    gM.view.readAt (Elt F) (Rect.unit (s := S2x1024x1024) ![0, 0, 0] S1x1024x1024.size inb_S2x1024x1024_S1x1024x1024_0_0_0).toLoadRect
      (gS0.view.writes (Elt F) f (⟨Rect.whole S1024x1024, ReadAs.same.apply ((eS j).view.read (Elt F) (m ((c : Thread nD τ).loc main_arg3)))⟩ :: L))
      = expertIn m c j :=
  squeezed_of (Memref.read_squeeze_slice gM _ (fun _ => rfl) squeezes_S1x1024x1024_S1024x1024 shapeCasts_S1x1024x1024_S1024x1024 _)
    (Memref.read_squeeze_slice eM _ (fun _ => rfl) squeezes_S1x1024x1024_S1024x1024 shapeCasts_S1x1024x1024_S1024x1024 (m ((c : Thread nD τ).loc main_arg3)))
    (read_writes_whole_cons gS0.view f _ L)
theorem stage1 (c : Dev nD) (j : Fin 8) (f : (cc0_scratch3 : Ref sig .tc).ty.Contents (Elt F)) (L : List (View.Piece (Elt F) S1024x1024 .f32)) :
    gM.view.readAt (Elt F) (Rect.unit (s := S2x1024x1024) ![1, 0, 0] S1x1024x1024.size inb_S2x1024x1024_S1x1024x1024_1_0_0).toLoadRect
      (gS1.view.writes (Elt F) f (⟨Rect.whole S1024x1024, ReadAs.same.apply ((eS j).view.read (Elt F) (m ((c : Thread nD τ).loc main_arg3)))⟩ :: L))
      = expertIn m c j :=
  squeezed_of (Memref.read_squeeze_slice gM _ (fun _ => rfl) squeezes_S1x1024x1024_S1024x1024 shapeCasts_S1x1024x1024_S1024x1024 _)
    (Memref.read_squeeze_slice eM _ (fun _ => rfl) squeezes_S1x1024x1024_S1024x1024 shapeCasts_S1x1024x1024_S1024x1024 (m ((c : Thread nD τ).loc main_arg3)))
    (read_writes_whole_cons gS1.view f _ L)

/-- A load of a box just stored reads what was stored. -/
theorem readCov_head {sp : Space} {s : Shape} {e : EltTy} (v : View sig .tc sp s e) {off size : Fin s.rank → ℕ} (inb : ∀ a, off a + size a ≤ s.size a)
    (w : (Rect.unit off size inb).shape.Idx → Elt F e) (L : List (View.Piece (Elt F) s e)) :
    v.readCov (⟨Rect.unit off size inb, w⟩ :: L) (Rect.unit off size inb).toLoadRect = w := by
  funext y
  exact View.read_writes_cons_unit_of_mem v _ inb w L _ y rfl fun a => by
    show off a + 1 * (y a).val = _
    rw [Nat.one_mul]

/-- The box of expert `j` in the buffer of rounded experts, and the store of `w` there. -/
abbrev wR (j : Fin 8) : Rect S8x1024x1024 := Rect.unit (s := S8x1024x1024) ![j.val, 0, 0] S1x1024x1024.size (inb_expert j)
abbrev wP (w : Fin 8 → Vec F S1x1024x1024 .bf16) (j : Fin 8) : View.Piece (Elt F) S8x1024x1024 .bf16 := ⟨wR j, w j⟩

/-- A load of expert `j` from the stores of several reads what was stored there. -/
theorem wRead {sp : Space} (v : View sig .tc sp S8x1024x1024 .bf16) (w : Fin 8 → Vec F S1x1024x1024 .bf16) (j : Fin 8) (l : List (Fin 8)) (hj : j ∈ l) :
    v.readCov (l.map (wP w)) (wR j).toLoadRect = w j := by
  induction l with
  | nil => exact absurd hj (by simp)
  | cons a l ih =>
    by_cases h : a = j
    · subst h
      rw [List.map_cons]
      exact readCov_head v (inb_expert a) (w a) (l.map (wP w))
    · have hv : a.val ≠ j.val := fun e => h (Fin.ext e)
      have hd : Disjoint (wR a).set (wR j).set := Rect.unit_disjoint (inb := inb_expert a) (inb' := inb_expert j) 0 (by
        show a.val + 1 ≤ j.val ∨ j.val + 1 ≤ a.val
        omega)
      rw [List.map_cons]
      exact (View.readCov_cons_of_disjoint v (wP w a) (l.map (wP w)) (wR j).toLoadRect hd).trans
        (ih ((List.mem_cons.mp hj).resolve_left fun e => h e.symm))

/-- A whole load of a staging buffer reads its contents. -/
theorem load_x (f : Vec F S2048x1024 .f32) : (Memref.whole cc0_stg0_0 : Memref sig .tc .vmem S2048x1024 .f32).view.readAt (Elt F)
    (Rect.unit (s := S2048x1024) ![0, 0] S2048x1024.size inb_S2048x1024_S2048x1024_0_0).toLoadRect f = f := View.readAt_full _ _ _
theorem load_rw (f : Vec F S1024x32 .f32) : (Memref.whole cc0_stg1_0 : Memref sig .tc .vmem S1024x32 .f32).view.readAt (Elt F)
    (Rect.unit (s := S1024x32) ![0, 0] S1024x32.size inb_S1024x32_S1024x32_0_0).toLoadRect f = f := View.readAt_full _ _ _
theorem load_idx (f : Vec F S2048x1 .i32) : (Memref.whole cc0_stg2_0 : Memref sig .tc .vmem S2048x1 .i32).view.readAt (Elt F)
    (Rect.unit (s := S2048x1) ![0, 0] S2048x1.size inb_S2048x1_S2048x1_0_0).toLoadRect f = f := View.readAt_full _ _ _
theorem load_s (f : Vec F S1024x1024 .f32) : (Memref.whole cc0_stg3_0 : Memref sig .tc .vmem S1024x1024 .f32).view.readAt (Elt F)
    (Rect.unit (s := S1024x1024) ![0, 0] S1024x1024.size inb_S1024x1024_S1024x1024_0_0).toLoadRect f = f := View.readAt_full _ _ _

/-- A block's rows, loaded from the buffer of rounded rows. -/
theorem load_rows (k : Fin 4) (c : Dev nD) {off : Fin 2 → ℕ} (h : off = ![rowOf k c, 0]) (inb) (f) (X : Vec F S2048x1024 .bf16) :
    (Memref.whole cc0_scratch0 : Memref sig .tc .vmem S2048x1024 .bf16).view.readAt (Elt F) (Rect.unit (s := S2048x1024) off S512x1024.size inb).toLoadRect
      ((Memref.whole cc0_scratch0 : Memref sig .tc .vmem S2048x1024 .bf16).view.writes (Elt F) f
        [⟨Rect.unit (s := S2048x1024) ![0, 0] S2048x1024.size inb_S2048x1024_S2048x1024_0_0, X⟩]) = xsOf X k c := by
  subst h
  funext i
  exact congrFun (View.read_writes_full (Memref.whole cc0_scratch0).view f inb_S2048x1024_S2048x1024_0_0 X []) _
theorem load_gates (k : Fin 4) (c : Dev nD) {off : Fin 2 → ℕ} (h : off = ![rowOf k c, 0]) (inb) (f) (X : Vec F S2048x8 .f32) :
    (Memref.whole cc0_scratch1 : Memref sig .tc .vmem S2048x8 .f32).view.readAt (Elt F) (Rect.unit (s := S2048x8) off S512x8.size inb).toLoadRect
      ((Memref.whole cc0_scratch1 : Memref sig .tc .vmem S2048x8 .f32).view.writes (Elt F) f
        [⟨Rect.unit (s := S2048x8) ![0, 0] S2048x8.size inb_S2048x8_S2048x8_0_0, X⟩]) = gsOf X k c := by
  subst h
  funext i
  exact congrFun (View.read_writes_full (Memref.whole cc0_scratch1).view f inb_S2048x8_S2048x8_0_0 X []) _

/-- What a send slot reads once stored. -/
theorem stored0 (fd : (cc0_scratch4 : Ref sig .tc).ty.Contents (Elt F)) (w : Vec F S1x512x1024 .bf16) :
    rdS 0 ((sM.access R0).write (Elt F) fd w Finset.univ) = w := View.read_write_univ (v := sM.access R0) fd w
theorem stored1 (fd : (cc0_scratch4 : Ref sig .tc).ty.Contents (Elt F)) (w : Vec F S1x512x1024 .bf16) :
    rdS 1 ((sM.access R1).write (Elt F) fd w Finset.univ) = w := View.read_write_univ (v := sM.access R1) fd w
theorem stored2 (fd : (cc0_scratch4 : Ref sig .tc).ty.Contents (Elt F)) (w : Vec F S1x512x1024 .bf16) :
    rdS 2 ((sM.access R2).write (Elt F) fd w Finset.univ) = w := View.read_write_univ (v := sM.access R2) fd w

/-- What the result's staging buffer holds once stored whole. -/
theorem stored_out (f : (cc0_stg4_0 : Ref sig .tc).ty.Contents (Elt F)) (w : Vec F S512x1024 .f32) :
    (Memref.whole cc0_stg4_0 : Memref sig .tc .vmem S512x1024 .f32).view.writes (Elt F) f
      [⟨Rect.unit (s := S512x1024) ![0, 0] S512x1024.size inb_S512x1024_S512x1024_0_0, w⟩] = w :=
by
  have h := View.read_writes_full (Memref.whole cc0_stg4_0 : Memref sig .tc .vmem S512x1024 .f32).view f inb_S512x1024_S512x1024_0_0 w []
  exact (View.read_whole (Val := Elt F) cc0_stg4_0 _).symm.trans h

end Cert.IdealMoe
end
-- ==== Proof.IdealBody.lean ====
/-
# The mixture-of-experts body, run on one device

The body is run once, at a symbolic device, from what the launch deals it: its input blocks, its scratch buffers cut into the
slots that travel, its places at its own cells and the tokens for what it pays to the other three devices.
-/
module

public import proofs.«01_k».proof.Proof.IdealValues

@[expose] public section

set_option maxRecDepth 16384

noncomputable section

namespace Cert.IdealMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

abbrev 𝒱₀ : Variants := Variants.none

/-! The rows a device reads, in closed form. -/
instance closed1_1 (c : Dev nD) : ClosedOff (k0_off1 c 1#32) := ⟨![rowOf 1 c, 0], off1_1 c⟩
instance closed1_2 (c : Dev nD) : ClosedOff (k0_off1 c 2#32) := ⟨![rowOf 2 c, 0], off1_2 c⟩
instance closed1_3 (c : Dev nD) : ClosedOff (k0_off1 c 3#32) := ⟨![rowOf 3 c, 0], off1_3 c⟩
instance closed2_1 (c : Dev nD) : ClosedOff (k0_off2 c 1#32) := ⟨![rowOf 1 c, 0], off2_1 c⟩
instance closed2_2 (c : Dev nD) : ClosedOff (k0_off2 c 2#32) := ⟨![rowOf 2 c, 0], off2_2 c⟩
instance closed2_3 (c : Dev nD) : ClosedOff (k0_off2 c 3#32) := ⟨![rowOf 3 c, 0], off2_3 c⟩
instance closed3_0 (c : Dev nD) : ClosedOff (k0_off3 c) := ⟨![rowOf 0 c, 0], off3_0 c⟩
instance closed4_0 (c : Dev nD) : ClosedOff (k0_off4 c) := ⟨![rowOf 0 c, 0], off4_0 c⟩

theorem landed0 (fd : (cc0_scratch5 : Ref sig .tc).ty.Contents (Elt F)) (fs : (cc0_scratch4 : Ref sig .tc).ty.Contents (Elt F)) :
    rdR 0 (rS0.view.write (Elt F) fd (sS0.view.read (Elt F) fs) Finset.univ) = rdS 0 fs :=
  landed_of (Memref.read_squeeze_slice rM R0 (fun _ => rfl) squeezes_S1x512x1024_S512x1024 shapeCasts_S1x512x1024_S512x1024 _)
    (Memref.read_squeeze_slice sM R0 (fun _ => rfl) squeezes_S1x512x1024_S512x1024 shapeCasts_S1x512x1024_S512x1024 fs)
    (View.read_write_univ (Val := Elt F) (v := rS0.view) fd (sS0.view.read (Elt F) fs))
theorem landed1 (fd : (cc0_scratch5 : Ref sig .tc).ty.Contents (Elt F)) (fs : (cc0_scratch4 : Ref sig .tc).ty.Contents (Elt F)) :
    rdR 1 (rS1.view.write (Elt F) fd (sS1.view.read (Elt F) fs) Finset.univ) = rdS 1 fs :=
  landed_of (Memref.read_squeeze_slice rM R1 (fun _ => rfl) squeezes_S1x512x1024_S512x1024 shapeCasts_S1x512x1024_S512x1024 _)
    (Memref.read_squeeze_slice sM R1 (fun _ => rfl) squeezes_S1x512x1024_S512x1024 shapeCasts_S1x512x1024_S512x1024 fs)
    (View.read_write_univ (Val := Elt F) (v := rS1.view) fd (sS1.view.read (Elt F) fs))
theorem landed2 (fd : (cc0_scratch5 : Ref sig .tc).ty.Contents (Elt F)) (fs : (cc0_scratch4 : Ref sig .tc).ty.Contents (Elt F)) :
    rdR 2 (rS2.view.write (Elt F) fd (sS2.view.read (Elt F) fs) Finset.univ) = rdS 2 fs :=
  landed_of (Memref.read_squeeze_slice rM R2 (fun _ => rfl) squeezes_S1x512x1024_S512x1024 shapeCasts_S1x512x1024_S512x1024 _)
    (Memref.read_squeeze_slice sM R2 (fun _ => rfl) squeezes_S1x512x1024_S512x1024 shapeCasts_S1x512x1024_S512x1024 fs)
    (View.read_write_univ (Val := Elt F) (v := rS2.view) fd (sS2.view.read (Elt F) fs))

/-- The copy of send slot 0 to receive slot 0 of the device 1 places on. -/
theorem wp_send0 (K : Dev nD × Fin 7 → ℕ) (c n : Dev nD) (hn : n = fwd 1 c) {hsc : (rS0 : Memref sig (Dev.tc n : Thread nD τ).2.kind .vmem S512x1024 .bf16).view.ref.isScScratch = false}
    {hsrc : (sS0 : Memref sig .tc .vmem S512x1024 .bf16).view.WordExact} {hdst : (rS0 : Memref sig .tc .vmem S512x1024 .bf16).view.WordExact}
    {hsem : DmaTarget.Typed .vmem (.dma recvS0) (.remote (Dev.tc n : Thread nD τ) (rS0 : Memref sig .tc .vmem S512x1024 .bf16) (.dma sendS0) hsc)}
    {α : Type} {Q : α → sProp 𝕄} {k : PUnit → Prog (TpuEff nD τ sig (Elt F) Λ₀ .tc) α}
    (fd : (cc0_scratch5 : Ref sig .tc).ty.Contents (Elt F)) (W : Waits sig Unit) :
    iprop(cellInv EX (sched m) (K (c, 1)) (sendCell c 0) ∗ cellInv EX (sched m) (K (fwd 1 c, 4)) (recvCell (fwd 1 c) 0)
        ∗ (∃ fs, ⌜rdS 0 fs = sent m c 0⌝ ∗ (sS0.view.loc (c : Thread nD τ) ↦[sS0.view.set]{fullShare} fs)) ∗ rPts (fwd 1 c) 0 fd
        ∗ owes (c : Thread nD τ) (O1 c) W
        ∗ dutyTok EX (sendCell c 0) 0 0 ∗ reached EX (sendCell c 0) 0
        ∗ dutyTok EX (recvCell (fwd 1 c) 0) 0 0 ∗ reached EX (recvCell (fwd 1 c) 0) 0)
      ⊢ iprop(((cred (tallyAt (sendCell c 0) () N) ∗ owes (c : Thread nD τ) (O2 c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sS0 (.remote (Dev.tc n : Thread nD τ) rS0 (.dma sendS0) hsc) (.dma recvS0) hsrc hdst hsem) k) Q) := by
  subst hn
  unfold rPts
  iintro ⟨Ha, Hb, ⟨%fs, %hfs, Hs⟩, Hd, He, Hf, Hg, Hh, Hi⟩
  have hd1 : (0 : Fin 3) ∈ (sched m).duties ((c : Thread nD τ), .dma sendS0) 0 := by
    have := duties_send m c 0; exact this ▸ Finset.mem_singleton_self _
  have hd2 : (0 : Fin 3) ∈ (sched m).duties ((fwd 1 c : Thread nD τ), .dma recvS0) 0 := by
    have := duties_recv m (fwd 1 c) 0; exact this ▸ Finset.mem_singleton_self _
  have hN : (rS0 : Memref sig .tc .vmem S512x1024 .bf16).view.amount (.dma recvS0) = N := rfl
  have ha1 : (sched m).amount ((c : Thread nD τ), .dma sendS0) 0 0 = N := amount_send m c 0 0
  have ha2 : (sched m).amount ((fwd 1 c : Thread nD τ), .dma recvS0) 0 0 = N := amount_recv m (fwd 1 c) 0 0
  have hp1 : iprop(sS0.view.loc (c : Thread nD τ) ↦[sS0.view.set]{fullShare} fs) ⊢ (sched m).payload ((c : Thread nD τ), .dma sendS0) 0 0 := by
    refine BIBase.Entails.trans ?_ (Entails.of_eq (payload_send m c 0 0).symm); unfold sendPay sPts; iintro H; iexists fs; iexact H
  have hp2 : iprop(rS0.view.loc (fwd 1 c : Thread nD τ) ↦[rS0.view.set]{fullShare} (rS0.view.write (Elt F) fd (sS0.view.read (Elt F) fs) Finset.univ)) ⊢ (sched m).payload ((fwd 1 c : Thread nD τ), .dma recvS0) 0 0 := by
    refine BIBase.Entails.trans ?_ (Entails.of_eq (payload_recv m (fwd 1 c) 0 0).symm); unfold recvPay rPts; iintro H; iexists (rS0.view.write (Elt F) fd (sS0.view.read (Elt F) fs) Finset.univ)
    isplitr
    · ipureintro; rw [landed0, hfs]; show _ = sent m (fwd 3 (fwd 1 c)) 0; rw [fwd31]
    iexact H
  have hO : O1 c = O2 c + tallyAt ((fwd 1 c : Thread nD τ), .dma recvS0) () N := rfl
  iapply (Rounds.wp_send_pointsTo 𝒱₀ EX (sched m) (c : Thread nD τ) none (c' := (fwd 1 c : Thread nD τ)) (κ₁ := K (c, 1)) (κ₂ := K (fwd 1 c, 4))
    (r₁ := 0) (r₂ := 0) (d₁ := 0) (d₂ := 0) (fd := fd) (src := sS0) (dst := rS0) (sem := .dma recvS0) (fs := fs) hd1 hd2 () () N hN ha1 ha2 (O2 c) hO hp1 hp2) $$ [Ha Hb Hs Hd He Hf Hg Hh Hi]
  isplitl [Ha]; · iexact Ha
  isplitl [Hb]; · iexact Hb
  isplitl [Hs]; · iexact Hs
  isplitl [Hd]; · iexact Hd
  isplitl [He]; · iexact He
  isplitl [Hf]; · iexact Hf
  isplitl [Hg]; · iexact Hg
  isplitl [Hh] <;> iassumption
/-- The copy of send slot 1 to receive slot 1 of the device 2 places on. -/
theorem wp_send1 (K : Dev nD × Fin 7 → ℕ) (c n : Dev nD) (hn : n = fwd 2 c) {hsc : (rS1 : Memref sig (Dev.tc n : Thread nD τ).2.kind .vmem S512x1024 .bf16).view.ref.isScScratch = false}
    {hsrc : (sS1 : Memref sig .tc .vmem S512x1024 .bf16).view.WordExact} {hdst : (rS1 : Memref sig .tc .vmem S512x1024 .bf16).view.WordExact}
    {hsem : DmaTarget.Typed .vmem (.dma recvS1) (.remote (Dev.tc n : Thread nD τ) (rS1 : Memref sig .tc .vmem S512x1024 .bf16) (.dma sendS1) hsc)}
    {α : Type} {Q : α → sProp 𝕄} {k : PUnit → Prog (TpuEff nD τ sig (Elt F) Λ₀ .tc) α}
    (fd : (cc0_scratch5 : Ref sig .tc).ty.Contents (Elt F)) (W : Waits sig Unit) :
    iprop(cellInv EX (sched m) (K (c, 2)) (sendCell c 1) ∗ cellInv EX (sched m) (K (fwd 2 c, 5)) (recvCell (fwd 2 c) 1)
        ∗ (∃ fs, ⌜rdS 1 fs = sent m c 1⌝ ∗ (sS1.view.loc (c : Thread nD τ) ↦[sS1.view.set]{fullShare} fs)) ∗ rPts (fwd 2 c) 1 fd
        ∗ owes (c : Thread nD τ) (O2 c) W
        ∗ dutyTok EX (sendCell c 1) 0 0 ∗ reached EX (sendCell c 1) 0
        ∗ dutyTok EX (recvCell (fwd 2 c) 1) 0 0 ∗ reached EX (recvCell (fwd 2 c) 1) 0)
      ⊢ iprop(((cred (tallyAt (sendCell c 1) () N) ∗ owes (c : Thread nD τ) (O3 c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sS1 (.remote (Dev.tc n : Thread nD τ) rS1 (.dma sendS1) hsc) (.dma recvS1) hsrc hdst hsem) k) Q) := by
  subst hn
  unfold rPts
  iintro ⟨Ha, Hb, ⟨%fs, %hfs, Hs⟩, Hd, He, Hf, Hg, Hh, Hi⟩
  have hd1 : (0 : Fin 3) ∈ (sched m).duties ((c : Thread nD τ), .dma sendS1) 0 := by
    have := duties_send m c 1; exact this ▸ Finset.mem_singleton_self _
  have hd2 : (0 : Fin 3) ∈ (sched m).duties ((fwd 2 c : Thread nD τ), .dma recvS1) 0 := by
    have := duties_recv m (fwd 2 c) 1; exact this ▸ Finset.mem_singleton_self _
  have hN : (rS1 : Memref sig .tc .vmem S512x1024 .bf16).view.amount (.dma recvS1) = N := rfl
  have ha1 : (sched m).amount ((c : Thread nD τ), .dma sendS1) 0 0 = N := amount_send m c 1 0
  have ha2 : (sched m).amount ((fwd 2 c : Thread nD τ), .dma recvS1) 0 0 = N := amount_recv m (fwd 2 c) 1 0
  have hp1 : iprop(sS1.view.loc (c : Thread nD τ) ↦[sS1.view.set]{fullShare} fs) ⊢ (sched m).payload ((c : Thread nD τ), .dma sendS1) 0 0 := by
    refine BIBase.Entails.trans ?_ (Entails.of_eq (payload_send m c 1 0).symm); unfold sendPay sPts; iintro H; iexists fs; iexact H
  have hp2 : iprop(rS1.view.loc (fwd 2 c : Thread nD τ) ↦[rS1.view.set]{fullShare} (rS1.view.write (Elt F) fd (sS1.view.read (Elt F) fs) Finset.univ)) ⊢ (sched m).payload ((fwd 2 c : Thread nD τ), .dma recvS1) 0 0 := by
    refine BIBase.Entails.trans ?_ (Entails.of_eq (payload_recv m (fwd 2 c) 1 0).symm); unfold recvPay rPts; iintro H; iexists (rS1.view.write (Elt F) fd (sS1.view.read (Elt F) fs) Finset.univ)
    isplitr
    · ipureintro; rw [landed1, hfs]; show _ = sent m (fwd 2 (fwd 2 c)) 1; rw [fwd22]
    iexact H
  have hO : O2 c = O3 c + tallyAt ((fwd 2 c : Thread nD τ), .dma recvS1) () N := rfl
  iapply (Rounds.wp_send_pointsTo 𝒱₀ EX (sched m) (c : Thread nD τ) none (c' := (fwd 2 c : Thread nD τ)) (κ₁ := K (c, 2)) (κ₂ := K (fwd 2 c, 5))
    (r₁ := 0) (r₂ := 0) (d₁ := 0) (d₂ := 0) (fd := fd) (src := sS1) (dst := rS1) (sem := .dma recvS1) (fs := fs) hd1 hd2 () () N hN ha1 ha2 (O3 c) hO hp1 hp2) $$ [Ha Hb Hs Hd He Hf Hg Hh Hi]
  isplitl [Ha]; · iexact Ha
  isplitl [Hb]; · iexact Hb
  isplitl [Hs]; · iexact Hs
  isplitl [Hd]; · iexact Hd
  isplitl [He]; · iexact He
  isplitl [Hf]; · iexact Hf
  isplitl [Hg]; · iexact Hg
  isplitl [Hh] <;> iassumption
/-- The copy of send slot 2 to receive slot 2 of the device 3 places on. -/
theorem wp_send2 (K : Dev nD × Fin 7 → ℕ) (c n : Dev nD) (hn : n = fwd 3 c) {hsc : (rS2 : Memref sig (Dev.tc n : Thread nD τ).2.kind .vmem S512x1024 .bf16).view.ref.isScScratch = false}
    {hsrc : (sS2 : Memref sig .tc .vmem S512x1024 .bf16).view.WordExact} {hdst : (rS2 : Memref sig .tc .vmem S512x1024 .bf16).view.WordExact}
    {hsem : DmaTarget.Typed .vmem (.dma recvS2) (.remote (Dev.tc n : Thread nD τ) (rS2 : Memref sig .tc .vmem S512x1024 .bf16) (.dma sendS2) hsc)}
    {α : Type} {Q : α → sProp 𝕄} {k : PUnit → Prog (TpuEff nD τ sig (Elt F) Λ₀ .tc) α}
    (fd : (cc0_scratch5 : Ref sig .tc).ty.Contents (Elt F)) (W : Waits sig Unit) :
    iprop(cellInv EX (sched m) (K (c, 3)) (sendCell c 2) ∗ cellInv EX (sched m) (K (fwd 3 c, 6)) (recvCell (fwd 3 c) 2)
        ∗ (∃ fs, ⌜rdS 2 fs = sent m c 2⌝ ∗ (sS2.view.loc (c : Thread nD τ) ↦[sS2.view.set]{fullShare} fs)) ∗ rPts (fwd 3 c) 2 fd
        ∗ owes (c : Thread nD τ) (O3 c) W
        ∗ dutyTok EX (sendCell c 2) 0 0 ∗ reached EX (sendCell c 2) 0
        ∗ dutyTok EX (recvCell (fwd 3 c) 2) 0 0 ∗ reached EX (recvCell (fwd 3 c) 2) 0)
      ⊢ iprop(((cred (tallyAt (sendCell c 2) () N) ∗ owes (c : Thread nD τ) (0 : CellTallies nD τ sig Unit) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sS2 (.remote (Dev.tc n : Thread nD τ) rS2 (.dma sendS2) hsc) (.dma recvS2) hsrc hdst hsem) k) Q) := by
  subst hn
  unfold rPts
  iintro ⟨Ha, Hb, ⟨%fs, %hfs, Hs⟩, Hd, He, Hf, Hg, Hh, Hi⟩
  have hd1 : (0 : Fin 3) ∈ (sched m).duties ((c : Thread nD τ), .dma sendS2) 0 := by
    have := duties_send m c 2; exact this ▸ Finset.mem_singleton_self _
  have hd2 : (0 : Fin 3) ∈ (sched m).duties ((fwd 3 c : Thread nD τ), .dma recvS2) 0 := by
    have := duties_recv m (fwd 3 c) 2; exact this ▸ Finset.mem_singleton_self _
  have hN : (rS2 : Memref sig .tc .vmem S512x1024 .bf16).view.amount (.dma recvS2) = N := rfl
  have ha1 : (sched m).amount ((c : Thread nD τ), .dma sendS2) 0 0 = N := amount_send m c 2 0
  have ha2 : (sched m).amount ((fwd 3 c : Thread nD τ), .dma recvS2) 0 0 = N := amount_recv m (fwd 3 c) 2 0
  have hp1 : iprop(sS2.view.loc (c : Thread nD τ) ↦[sS2.view.set]{fullShare} fs) ⊢ (sched m).payload ((c : Thread nD τ), .dma sendS2) 0 0 := by
    refine BIBase.Entails.trans ?_ (Entails.of_eq (payload_send m c 2 0).symm); unfold sendPay sPts; iintro H; iexists fs; iexact H
  have hp2 : iprop(rS2.view.loc (fwd 3 c : Thread nD τ) ↦[rS2.view.set]{fullShare} (rS2.view.write (Elt F) fd (sS2.view.read (Elt F) fs) Finset.univ)) ⊢ (sched m).payload ((fwd 3 c : Thread nD τ), .dma recvS2) 0 0 := by
    refine BIBase.Entails.trans ?_ (Entails.of_eq (payload_recv m (fwd 3 c) 2 0).symm); unfold recvPay rPts; iintro H; iexists (rS2.view.write (Elt F) fd (sS2.view.read (Elt F) fs) Finset.univ)
    isplitr
    · ipureintro; rw [landed2, hfs]; show _ = sent m (fwd 1 (fwd 3 c)) 2; rw [fwd13]
    iexact H
  have hO : O3 c = (0 : CellTallies nD τ sig Unit) + tallyAt ((fwd 3 c : Thread nD τ), .dma recvS2) () N := (zero_add _).symm
  iapply (Rounds.wp_send_pointsTo 𝒱₀ EX (sched m) (c : Thread nD τ) none (c' := (fwd 3 c : Thread nD τ)) (κ₁ := K (c, 3)) (κ₂ := K (fwd 3 c, 6))
    (r₁ := 0) (r₂ := 0) (d₁ := 0) (d₂ := 0) (fd := fd) (src := sS2) (dst := rS2) (sem := .dma recvS2) (fs := fs) hd1 hd2 () () N hN ha1 ha2 (0 : CellTallies nD τ sig Unit) hO hp1 hp2) $$ [Ha Hb Hs Hd He Hf Hg Hh Hi]
  isplitl [Ha]; · iexact Ha
  isplitl [Hb]; · iexact Hb
  isplitl [Hs]; · iexact Hs
  isplitl [Hd]; · iexact Hd
  isplitl [He]; · iexact He
  isplitl [Hf]; · iexact Hf
  isplitl [Hg]; · iexact Hg
  isplitl [Hh] <;> iassumption

/-- What a device's body starts from: the exchange's state, its waits' credits, the level facts, the local copy cells, its
    operand of experts, its scratch buffers (the staging and the travelling ones cut into slots) and its staged windows. -/
def bodyPre (K : Dev nD × Fin 7 → ℕ) (c : Dev nD) (W : Waits sig Unit)
    (fx : (cc0_scratch0 : Ref sig .tc).ty.Contents (Elt F)) (fg : (cc0_scratch1 : Ref sig .tc).ty.Contents (Elt F))
    (fe : (cc0_scratch2 : Ref sig .tc).ty.Contents (Elt F)) (fs0 fs1 : (cc0_scratch3 : Ref sig .tc).ty.Contents (Elt F))
    (fd0 fd1 fd2 : (cc0_scratch4 : Ref sig .tc).ty.Contents (Elt F)) (fr0 fr1 fr2 : (cc0_scratch5 : Ref sig .tc).ty.Contents (Elt F))
    (fout : (cc0_stg4_0 : Ref sig .tc).ty.Contents (Elt F)) : sProp 𝕄 :=
  iprop(ghost m K c ∗ credits c ∗ levAts L lv ∗ copies c ∗ owes (c : Thread nD τ) (O₀ c) W
    ∗ ((Memref.whole main_arg3).view.loc (c : Thread nD τ) ↦{fullShare} m ((c : Thread nD τ).loc main_arg3))
    ∗ ((Memref.whole cc0_scratch0).view.loc (c : Thread nD τ) ↦{fullShare} fx)
    ∗ ((Memref.whole cc0_scratch1).view.loc (c : Thread nD τ) ↦{fullShare} fg)
    ∗ ((Memref.whole cc0_scratch2).view.loc (c : Thread nD τ) ↦{fullShare} fe)
    ∗ (gS0.view.loc (c : Thread nD τ) ↦[gS0.view.set]{fullShare} fs0) ∗ (gS1.view.loc (c : Thread nD τ) ↦[gS1.view.set]{fullShare} fs1)
    ∗ (sS0.view.loc (c : Thread nD τ) ↦[sS0.view.set]{fullShare} fd0) ∗ (sS1.view.loc (c : Thread nD τ) ↦[sS1.view.set]{fullShare} fd1)
    ∗ (sS2.view.loc (c : Thread nD τ) ↦[sS2.view.set]{fullShare} fd2)
    ∗ rPts c 0 fr0 ∗ rPts c 1 fr1 ∗ rPts c 2 fr2
    ∗ ((Memref.whole cc0_stg0_0).view.loc (c : Thread nD τ) ↦{fullShare} xin m c)
    ∗ ((Memref.whole cc0_stg1_0).view.loc (c : Thread nD τ) ↦{fullShare} rwin m c)
    ∗ ((Memref.whole cc0_stg2_0).view.loc (c : Thread nD τ) ↦{fullShare} idxin m c)
    ∗ ((Memref.whole cc0_stg3_0).view.loc (c : Thread nD τ) ↦{fullShare} swin m c)
    ∗ ((Memref.whole cc0_stg4_0).view.loc (c : Thread nD τ) ↦{fullShare} fout))

/-- What a device holds when its body is done. -/
def bodyPost (c : Dev nD) : sProp 𝕄 :=
  iprop((∃ f, (Memref.whole cc0_scratch0).view.loc (c : Thread nD τ) ↦{fullShare} f)
    ∗ (∃ f, (Memref.whole cc0_scratch1).view.loc (c : Thread nD τ) ↦{fullShare} f)
    ∗ (∃ f, (Memref.whole cc0_scratch2).view.loc (c : Thread nD τ) ↦{fullShare} f)
    ∗ (∃ f, gS0.view.loc (c : Thread nD τ) ↦[gS0.view.set]{fullShare} f)
    ∗ (∃ f, gS1.view.loc (c : Thread nD τ) ↦[gS1.view.set]{fullShare} f)
    ∗ (∃ f, sS0.view.loc (c : Thread nD τ) ↦[sS0.view.set]{fullShare} f)
    ∗ (∃ f, sS1.view.loc (c : Thread nD τ) ↦[sS1.view.set]{fullShare} f)
    ∗ (∃ f, sS2.view.loc (c : Thread nD τ) ↦[sS2.view.set]{fullShare} f)
    ∗ (∃ f, rS0.view.loc (c : Thread nD τ) ↦[rS0.view.set]{fullShare} f)
    ∗ (∃ f, rS1.view.loc (c : Thread nD τ) ↦[rS1.view.set]{fullShare} f)
    ∗ (∃ f, rS2.view.loc (c : Thread nD τ) ↦[rS2.view.set]{fullShare} f)
    ∗ semVal (barCell c) 0
    ∗ semVal ((c : Thread nD τ), .dma copyS0) 0
    ∗ semVal ((c : Thread nD τ), .dma copyS1) 0
    ∗ semVal (sendCell c 0) 0
    ∗ semVal (sendCell c 1) 0
    ∗ semVal (sendCell c 2) 0
    ∗ semVal (recvCell c 0) 0
    ∗ semVal (recvCell c 1) 0
    ∗ semVal (recvCell c 2) 0
    ∗ ((Memref.whole main_arg3).view.loc (c : Thread nD τ) ↦{fullShare} m ((c : Thread nD τ).loc main_arg3))
    ∗ (∃ W, owes (c : Thread nD τ) 0 W)
    ∗ ((Memref.whole cc0_stg0_0).view.loc (c : Thread nD τ) ↦{fullShare} xin m c)
    ∗ ((Memref.whole cc0_stg1_0).view.loc (c : Thread nD τ) ↦{fullShare} rwin m c)
    ∗ ((Memref.whole cc0_stg2_0).view.loc (c : Thread nD τ) ↦{fullShare} idxin m c)
    ∗ ((Memref.whole cc0_stg3_0).view.loc (c : Thread nD τ) ↦{fullShare} swin m c)
    ∗ (∃ f, ⌜f = outAt m c⌝ ∗ ((Memref.whole cc0_stg4_0).view.loc (c : Thread nD τ) ↦{fullShare} f)))

/-- What the barrier's round hands over, spelt out: the three peers' receive slots. -/
theorem rest_bar_pts (c : Dev nD) : bigSep ((sched m).duties (barCell c) 0 \ ∅) (fun d => (sched m).payload (barCell c) 0 d)
    = iprop(((∃ f, rPts (F := F) (fwd 3 c) 2 f) ∗ reached EX (recvCell (fwd 3 c) 2) 0) ∗ ((∃ f, rPts (F := F) (fwd 2 c) 1 f) ∗ reached EX (recvCell (fwd 2 c) 1) 0)
      ∗ ((∃ f, rPts (F := F) (fwd 1 c) 0 f) ∗ reached EX (recvCell (fwd 1 c) 0) 0)) := rest_bar m c
/-- What a receive cell's round hands over, spelt out. -/
theorem rest_recv0 (c : Dev nD) : bigSep ((sched m).duties ((c : Thread nD τ), .dma recvS0) 0 \ ∅) (fun d => (sched m).payload ((c : Thread nD τ), .dma recvS0) 0 d)
    = iprop(∃ f, ⌜rdR 0 f = sent m (fwd 3 c) 0⌝ ∗ (rS0.view.loc (c : Thread nD τ) ↦[rS0.view.set]{fullShare} f)) := rest_recv m c 0
theorem rest_recv1 (c : Dev nD) : bigSep ((sched m).duties ((c : Thread nD τ), .dma recvS1) 0 \ ∅) (fun d => (sched m).payload ((c : Thread nD τ), .dma recvS1) 0 d)
    = iprop(∃ f, ⌜rdR 1 f = sent m (fwd 2 c) 1⌝ ∗ (rS1.view.loc (c : Thread nD τ) ↦[rS1.view.set]{fullShare} f)) := rest_recv m c 1
theorem rest_recv2 (c : Dev nD) : bigSep ((sched m).duties ((c : Thread nD τ), .dma recvS2) 0 \ ∅) (fun d => (sched m).payload ((c : Thread nD τ), .dma recvS2) 0 d)
    = iprop(∃ f, ⌜rdR 2 f = sent m (fwd 1 c) 2⌝ ∗ (rS2.view.loc (c : Thread nD τ) ↦[rS2.view.set]{fullShare} f)) := rest_recv m c 2
/-- What a send cell's round hands over, spelt out. -/
theorem rest_send0 (c : Dev nD) : bigSep ((sched m).duties ((c : Thread nD τ), .dma sendS0) 0 \ ∅) (fun d => (sched m).payload ((c : Thread nD τ), .dma sendS0) 0 d)
    = iprop(∃ f, (sS0.view.loc (c : Thread nD τ) ↦[sS0.view.set]{fullShare} f)) := rest_send m c 0
theorem rest_send1 (c : Dev nD) : bigSep ((sched m).duties ((c : Thread nD τ), .dma sendS1) 0 \ ∅) (fun d => (sched m).payload ((c : Thread nD τ), .dma sendS1) 0 d)
    = iprop(∃ f, (sS1.view.loc (c : Thread nD τ) ↦[sS1.view.set]{fullShare} f)) := rest_send m c 1
theorem rest_send2 (c : Dev nD) : bigSep ((sched m).duties ((c : Thread nD τ), .dma sendS2) 0 \ ∅) (fun d => (sched m).payload ((c : Thread nD τ), .dma sendS2) 0 d)
    = iprop(∃ f, (sS2.view.loc (c : Thread nD τ) ↦[sS2.view.set]{fullShare} f)) := rest_send m c 2

/-- What a receive cell's round hands over when it is waited for whole. -/
theorem pay_recv0 (c : Dev nD) : bigSep ((sched m).duties (recvCell c 0) 0) (fun d => (sched m).payload (recvCell c 0) 0 d)
    = iprop(∃ f, ⌜rdR 0 f = sent m (fwd 3 c) 0⌝ ∗ (rS0.view.loc (c : Thread nD τ) ↦[rS0.view.set]{fullShare} f)) := by
  rw [← rest_recv0, Finset.sdiff_empty]
theorem pay_recv1 (c : Dev nD) : bigSep ((sched m).duties (recvCell c 1) 0) (fun d => (sched m).payload (recvCell c 1) 0 d)
    = iprop(∃ f, ⌜rdR 1 f = sent m (fwd 2 c) 1⌝ ∗ (rS1.view.loc (c : Thread nD τ) ↦[rS1.view.set]{fullShare} f)) := by
  rw [← rest_recv1, Finset.sdiff_empty]
theorem pay_recv2 (c : Dev nD) : bigSep ((sched m).duties (recvCell c 2) 0) (fun d => (sched m).payload (recvCell c 2) 0 d)
    = iprop(∃ f, ⌜rdR 2 f = sent m (fwd 1 c) 2⌝ ∗ (rS2.view.loc (c : Thread nD τ) ↦[rS2.view.set]{fullShare} f)) := by
  rw [← rest_recv2, Finset.sdiff_empty]
/-- What a send cell's round hands over when it is waited for whole. -/
theorem pay_send0 (c : Dev nD) : bigSep ((sched m).duties (sendCell c 0) 0) (fun d => (sched m).payload (sendCell c 0) 0 d)
    = iprop(∃ f, (sS0.view.loc (c : Thread nD τ) ↦[sS0.view.set]{fullShare} f)) := by
  rw [← rest_send0, Finset.sdiff_empty]
theorem pay_send1 (c : Dev nD) : bigSep ((sched m).duties (sendCell c 1) 0) (fun d => (sched m).payload (sendCell c 1) 0 d)
    = iprop(∃ f, (sS1.view.loc (c : Thread nD τ) ↦[sS1.view.set]{fullShare} f)) := by
  rw [← rest_send1, Finset.sdiff_empty]
theorem pay_send2 (c : Dev nD) : bigSep ((sched m).duties (sendCell c 2) 0) (fun d => (sched m).payload (sendCell c 2) 0 d)
    = iprop(∃ f, (sS2.view.loc (c : Thread nD τ) ↦[sS2.view.set]{fullShare} f)) := by
  rw [← rest_send2, Finset.sdiff_empty]

/-- The signal a device sends to the barrier of the device it calls `n`, its duty `d` there. -/
theorem wp_sig (K : Dev nD × Fin 7 → ℕ) (c n p : Dev nD) (hn : n = p) (d : Fin 3) (O₀ O : CellTallies nD τ sig Unit)
    (hO : O₀ = O + tallyAt (barCell p) () 1) (W : Waits sig Unit)
    {α : Type} {Q : α → sProp 𝕄} {k : PUnit → Prog (TpuEff nD τ sig (Elt F) Λ₀ .tc) α} :
    iprop(cellInv EX (sched m) (K (p, 0)) (barCell p) ∗ owes (c : Thread nD τ) O₀ W ∗ dutyTok EX (barCell p) 0 d ∗ barPay p d ∗ reached EX (barCell p) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (BitVec.toInt 1#32)) k) Q) := by
  subst hn
  rw [← payload_bar m n d]
  exact Rounds.wp_signal 𝒱₀ EX (sched m) (c : Thread nD τ) none (dst := (n : Thread nD τ)) (sem := barS) (κ := K (n, 0)) (r := 0) (d := d)
    (by rw [duties_bar]; exact Finset.mem_univ _) ((amount_bar m n d).trans (by decide)) () O (hO.trans (by rfl))

set_option maxHeartbeats 1000000 in
theorem sound_body (K : Dev nD × Fin 7 → ℕ) (c : Dev nD) (W : Waits sig Unit)
    (fx : (cc0_scratch0 : Ref sig .tc).ty.Contents (Elt F)) (fg : (cc0_scratch1 : Ref sig .tc).ty.Contents (Elt F))
    (fe : (cc0_scratch2 : Ref sig .tc).ty.Contents (Elt F)) (fs0 fs1 : (cc0_scratch3 : Ref sig .tc).ty.Contents (Elt F))
    (fd0 fd1 fd2 : (cc0_scratch4 : Ref sig .tc).ty.Contents (Elt F)) (fr0 fr1 fr2 : (cc0_scratch5 : Ref sig .tc).ty.Contents (Elt F))
    (fout : (cc0_stg4_0 : Ref sig .tc).ty.Contents (Elt F))
    (Kt : PUnit → sProp 𝕄) :
    iprop(bodyPre m K c W fx fg fe fs0 fs1 fd0 fd1 fd2 fr0 fr1 fr2 fout ∗ (bodyPost m c -∗ Kt ⟨⟩))
      ⊢ wp frame (wpE (defs₀ (F := F)) Variants.none (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole main_arg3) (Memref.isWhole_whole _)
            (Memref.whole cc0_stg3_0) (Memref.isWhole_whole _) (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8) Kt := by
  have hmw0 : ∀ O', O' = O1 c → ((levAts L lv : sProp 𝕄) ⊢ MayWait (c : Thread nD τ) (.dma copyS0) () O') :=
    fun O' h => mayWait_low c copyS0 (by decide) O' (Or.inr (Or.inl h))
  have hmw1 : ∀ O', O' = O1 c → ((levAts L lv : sProp 𝕄) ⊢ MayWait (c : Thread nD τ) (.dma copyS1) () O') :=
    fun O' h => mayWait_low c copyS1 (by decide) O' (Or.inr (Or.inl h))
  unfold bodyPre ghost invs marks places payToks credits copies
  iintro ⟨⟨⟨⟨#HIb, #HIs0, #HIs1, #HIs2, #HIr0, #HIr1, #HIr2, #HIb1, #HIb2, #HIb3, #HIp1, #HIp2, #HIp3⟩,
      ⟨#HRb1, #HRb2, #HRb3, #HRs0, #HRs1, #HRs2, #HRr0, #HRr1, #HRr2⟩,
      ⟨HatB, HatS0, HatS1, HatS2, HatR0, HatR1, HatR2⟩,
      ⟨HtB1, HtB2, HtB3, HtP1, HtP2, HtP3, HtS0, HtS1, HtS2⟩⟩,
    ⟨HcB, HcR0, HcR1, HcR2⟩, #Hlev, ⟨Hc0, Hc1⟩, HO, H3, Hx, Hg, He, Hs0, Hs1, Hd0, Hd1, Hd2, Hr0, Hr1, Hr2, H0, H1, H2, HS, Hout⟩, Hk⟩
  sl_unfold [cc0_body]
  sl_exec
  iapply (wp_sig m K c _ (fwd 1 c) (dev1_eq c) 0 (O₀ c) (OB2 c) rfl W) $$ [HO HtB1 Hr2]
  · isplitr; · iexact HIb1
    isplitl [HO]; · iexact HO
    isplitl [HtB1]; · iexact HtB1
    isplitl [Hr2]
    · unfold barPay; dsimp only; rw [fwd31]
      isplitl [Hr2]; · iexists fr2; iexact Hr2
      iexact HRr2
    iexact HRb1
  iintro HO
  sl_exec
  iapply (wp_sig m K c _ (fwd 2 c) (dev2_eq c) 1 (OB2 c) (OB3 c) rfl W) $$ [HO HtB2 Hr1]
  · isplitr; · iexact HIb2
    isplitl [HO]; · iexact HO
    isplitl [HtB2]; · iexact HtB2
    isplitl [Hr1]
    · unfold barPay; dsimp only; rw [fwd22]
      isplitl [Hr1]; · iexists fr1; iexact Hr1
      iexact HRr1
    iexact HRb2
  iintro HO
  sl_exec
  iapply (wp_sig m K c _ (fwd 3 c) (dev3_eq c) 2 (OB3 c) (O1 c) rfl W) $$ [HO HtB3 Hr0]
  · isplitr; · iexact HIb3
    isplitl [HO]; · iexact HO
    isplitl [HtB3]; · iexact HtB3
    isplitl [Hr0]
    · unfold barPay; dsimp only; rw [fwd13]
      isplitl [Hr0]; · iexists fr0; iexact Hr0
      iexact HRr0
    iexact HRb3
  iintro HO
  sl_exec
  iapply (Rounds.wp_wait_rest_token 𝒱₀ EX (sched m) (c : Thread nD τ) none (κ := K (c, 0))
      (wpE_semWait_eq 𝒱₀ (c : Thread nD τ) none Set.univ) (Set.mem_univ _) () (O := O1 c) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar_pts m c)) $$ Hpay
  icases Hp with ⟨⟨⟨%fn2, Hn3⟩, #HRp3⟩, ⟨⟨%fn1, Hn2⟩, #HRp2⟩, ⟨%fn0, Hn1⟩, #HRp1⟩
  sl_exec
  iapply (wp_send0 m K c _ (dev4_eq c) fn0 _) $$ [Hd0 Hn1 HO HtS0 HtP1]
  · isplitr; · iexact HIs0
    isplitr; · iexact HIp1
    isplitl [Hd0]
    · iexists _; isplitr [Hd0]; on_goal 2 => iexact Hd0
      ipureintro
      have i0 : sound_body.sl.v139 m c = expertIn m c 0 := stage0 m c 0 _ _
      have i1 : sound_body.sl.v171 m c = expertIn m c 1 := stage1 m c 1 _ _
      have i2 : sound_body.sl.v203 m c = expertIn m c 2 := stage0 m c 2 _ _
      have i3 : sound_body.sl.v235 m c = expertIn m c 3 := stage1 m c 3 _ _
      have i4 : sound_body.sl.v267 m c = expertIn m c 4 := stage0 m c 4 _ _
      have i5 : sound_body.sl.v299 m c = expertIn m c 5 := stage1 m c 5 _ _
      have i6 : sound_body.sl.v331 m c = expertIn m c 6 := stage0 m c 6 _ _
      have i7 : sound_body.sl.v357 m c = expertIn m c 7 := stage1 m c 7 _ _
      have H1 : sound_body.sl.He_1 m c = ([0] : List (Fin 8)).map (wP (expert m c)) :=
        congrArg₂ (fun (w : Vec F S1x1024x1024 .bf16) L => (⟨wR 0, w⟩ : View.Piece (Elt F) S8x1024x1024 .bf16) :: L) (congrArg k0_pay6 i0) (rfl : ([] : List (View.Piece (Elt F) S8x1024x1024 .bf16)) = [])
      have H2 : sound_body.sl.He_2 m c = ([1,0] : List (Fin 8)).map (wP (expert m c)) :=
        congrArg₂ (fun (w : Vec F S1x1024x1024 .bf16) L => (⟨wR 1, w⟩ : View.Piece (Elt F) S8x1024x1024 .bf16) :: L) (congrArg k0_pay9 i1) H1
      have H3 : sound_body.sl.He_3 m c = ([2,1,0] : List (Fin 8)).map (wP (expert m c)) :=
        congrArg₂ (fun (w : Vec F S1x1024x1024 .bf16) L => (⟨wR 2, w⟩ : View.Piece (Elt F) S8x1024x1024 .bf16) :: L) (congrArg k0_pay12 i2) H2
      have H4 : sound_body.sl.He_4 m c = ([3,2,1,0] : List (Fin 8)).map (wP (expert m c)) :=
        congrArg₂ (fun (w : Vec F S1x1024x1024 .bf16) L => (⟨wR 3, w⟩ : View.Piece (Elt F) S8x1024x1024 .bf16) :: L) (congrArg k0_pay17 i3) H3
      have H5 : sound_body.sl.He_5 m c = ([4,3,2,1,0] : List (Fin 8)).map (wP (expert m c)) :=
        congrArg₂ (fun (w : Vec F S1x1024x1024 .bf16) L => (⟨wR 4, w⟩ : View.Piece (Elt F) S8x1024x1024 .bf16) :: L) (congrArg k0_pay22 i4) H4
      have H6 : sound_body.sl.He_6 m c = ([5,4,3,2,1,0] : List (Fin 8)).map (wP (expert m c)) :=
        congrArg₂ (fun (w : Vec F S1x1024x1024 .bf16) L => (⟨wR 5, w⟩ : View.Piece (Elt F) S8x1024x1024 .bf16) :: L) (congrArg k0_pay26 i5) H5
      have H7 : sound_body.sl.He_7 m c = ([6,5,4,3,2,1,0] : List (Fin 8)).map (wP (expert m c)) :=
        congrArg₂ (fun (w : Vec F S1x1024x1024 .bf16) L => (⟨wR 6, w⟩ : View.Piece (Elt F) S8x1024x1024 .bf16) :: L) (congrArg k0_pay28 i6) H6
      have H8 : sound_body.sl.He_8 m c = ([7,6,5,4,3,2,1,0] : List (Fin 8)).map (wP (expert m c)) :=
        congrArg₂ (fun (w : Vec F S1x1024x1024 .bf16) L => (⟨wR 7, w⟩ : View.Piece (Elt F) S8x1024x1024 .bf16) :: L) (congrArg k0_pay31 i7) H7
      have e152 : sound_body.sl.v152 m c = expert m c 0 :=
        (congrArg (fun L => (Memref.whole cc0_scratch2 : Memref sig .tc .vmem S8x1024x1024 .bf16).view.readCov L (wR 0).toLoadRect) H1).trans
          (wRead _ (expert m c) 0 [0] (by decide))
      have e184 : sound_body.sl.v184 m c = expert m c 1 :=
        (congrArg (fun L => (Memref.whole cc0_scratch2 : Memref sig .tc .vmem S8x1024x1024 .bf16).view.readCov L (wR 1).toLoadRect) H2).trans
          (wRead _ (expert m c) 1 [1,0] (by decide))
      have e216 : sound_body.sl.v216 m c = expert m c 2 :=
        (congrArg (fun L => (Memref.whole cc0_scratch2 : Memref sig .tc .vmem S8x1024x1024 .bf16).view.readCov L (wR 2).toLoadRect) H3).trans
          (wRead _ (expert m c) 2 [2,1,0] (by decide))
      have e248 : sound_body.sl.v248 m c = expert m c 3 :=
        (congrArg (fun L => (Memref.whole cc0_scratch2 : Memref sig .tc .vmem S8x1024x1024 .bf16).view.readCov L (wR 3).toLoadRect) H4).trans
          (wRead _ (expert m c) 3 [3,2,1,0] (by decide))
      have e280 : sound_body.sl.v280 m c = expert m c 4 :=
        (congrArg (fun L => (Memref.whole cc0_scratch2 : Memref sig .tc .vmem S8x1024x1024 .bf16).view.readCov L (wR 4).toLoadRect) H5).trans
          (wRead _ (expert m c) 4 [4,3,2,1,0] (by decide))
      have e312 : sound_body.sl.v312 m c = expert m c 5 :=
        (congrArg (fun L => (Memref.whole cc0_scratch2 : Memref sig .tc .vmem S8x1024x1024 .bf16).view.readCov L (wR 5).toLoadRect) H6).trans
          (wRead _ (expert m c) 5 [5,4,3,2,1,0] (by decide))
      have e338 : sound_body.sl.v338 m c = expert m c 6 :=
        (congrArg (fun L => (Memref.whole cc0_scratch2 : Memref sig .tc .vmem S8x1024x1024 .bf16).view.readCov L (wR 6).toLoadRect) H7).trans
          (wRead _ (expert m c) 6 [6,5,4,3,2,1,0] (by decide))
      have e364 : sound_body.sl.v364 m c = expert m c 7 :=
        (congrArg (fun L => (Memref.whole cc0_scratch2 : Memref sig .tc .vmem S8x1024x1024 .bf16).view.readCov L (wR 7).toLoadRect) H8).trans
          (wRead _ (expert m c) 7 [7,6,5,4,3,2,1,0] (by decide))
      have eR : sound_body.sl.r m c = k0_pay2 (xin m c) (rwin m c) := by unfold sound_body.sl.r; rw [load_x, load_rw]
      have e110 : sound_body.sl.v110 m c = xsOf (xb m c) 1 c :=
        (load_rows 1 c (off1_1 c) _ _ _).trans (congrArg (fun X => xsOf (k0_pay1 X) 1 c) (load_x (xin m c)))
      have e113 : sound_body.sl.v113 m c = gsOf (gates m c) 1 c :=
        (load_gates 1 c (off2_1 c) _ _ _).trans (congrArg₂ (fun r i => gsOf (k0_pay3 (placeW c) r i) 1 c) eR (load_idx (idxin m c)))
      exact (stored0 fd0 _).trans (by
        unfold sound_body.sl.r_17 sound_body.sl.r_16 sound_body.sl.r_13 sound_body.sl.r_9 sound_body.sl.r_5 sound_body.sl.r_3 sound_body.sl.r_1
        rw [e110, e113, e152, e184, e216, e248, e280, e312, e338, e364]
        rfl)
    isplitl [Hn1]; · iexact Hn1
    isplitl [HO]; · iexact HO
    isplitl [HtS0]; · iexact HtS0
    isplitr; · iexact HRs0
    isplitl [HtP1]; · iexact HtP1
    iexact HRp1
  iintro ⟨HcS0, HO⟩
  sl_exec
  iapply (wp_send1 m K c _ (dev5_eq c) fn1 _) $$ [Hd1 Hn2 HO HtS1 HtP2]
  · isplitr; · iexact HIs1
    isplitr; · iexact HIp2
    isplitl [Hd1]
    · iexists _; isplitr [Hd1]; on_goal 2 => iexact Hd1
      ipureintro
      have i0 : sound_body.sl.v139 m c = expertIn m c 0 := stage0 m c 0 _ _
      have i1 : sound_body.sl.v171 m c = expertIn m c 1 := stage1 m c 1 _ _
      have i2 : sound_body.sl.v203 m c = expertIn m c 2 := stage0 m c 2 _ _
      have i3 : sound_body.sl.v235 m c = expertIn m c 3 := stage1 m c 3 _ _
      have i4 : sound_body.sl.v267 m c = expertIn m c 4 := stage0 m c 4 _ _
      have i5 : sound_body.sl.v299 m c = expertIn m c 5 := stage1 m c 5 _ _
      have i6 : sound_body.sl.v331 m c = expertIn m c 6 := stage0 m c 6 _ _
      have i7 : sound_body.sl.v357 m c = expertIn m c 7 := stage1 m c 7 _ _
      have H1 : sound_body.sl.He_1 m c = ([0] : List (Fin 8)).map (wP (expert m c)) :=
        congrArg₂ (fun (w : Vec F S1x1024x1024 .bf16) L => (⟨wR 0, w⟩ : View.Piece (Elt F) S8x1024x1024 .bf16) :: L) (congrArg k0_pay6 i0) (rfl : ([] : List (View.Piece (Elt F) S8x1024x1024 .bf16)) = [])
      have H2 : sound_body.sl.He_2 m c = ([1,0] : List (Fin 8)).map (wP (expert m c)) :=
        congrArg₂ (fun (w : Vec F S1x1024x1024 .bf16) L => (⟨wR 1, w⟩ : View.Piece (Elt F) S8x1024x1024 .bf16) :: L) (congrArg k0_pay9 i1) H1
      have H3 : sound_body.sl.He_3 m c = ([2,1,0] : List (Fin 8)).map (wP (expert m c)) :=
        congrArg₂ (fun (w : Vec F S1x1024x1024 .bf16) L => (⟨wR 2, w⟩ : View.Piece (Elt F) S8x1024x1024 .bf16) :: L) (congrArg k0_pay12 i2) H2
      have H4 : sound_body.sl.He_4 m c = ([3,2,1,0] : List (Fin 8)).map (wP (expert m c)) :=
        congrArg₂ (fun (w : Vec F S1x1024x1024 .bf16) L => (⟨wR 3, w⟩ : View.Piece (Elt F) S8x1024x1024 .bf16) :: L) (congrArg k0_pay17 i3) H3
      have H5 : sound_body.sl.He_5 m c = ([4,3,2,1,0] : List (Fin 8)).map (wP (expert m c)) :=
        congrArg₂ (fun (w : Vec F S1x1024x1024 .bf16) L => (⟨wR 4, w⟩ : View.Piece (Elt F) S8x1024x1024 .bf16) :: L) (congrArg k0_pay22 i4) H4
      have H6 : sound_body.sl.He_6 m c = ([5,4,3,2,1,0] : List (Fin 8)).map (wP (expert m c)) :=
        congrArg₂ (fun (w : Vec F S1x1024x1024 .bf16) L => (⟨wR 5, w⟩ : View.Piece (Elt F) S8x1024x1024 .bf16) :: L) (congrArg k0_pay26 i5) H5
      have H7 : sound_body.sl.He_7 m c = ([6,5,4,3,2,1,0] : List (Fin 8)).map (wP (expert m c)) :=
        congrArg₂ (fun (w : Vec F S1x1024x1024 .bf16) L => (⟨wR 6, w⟩ : View.Piece (Elt F) S8x1024x1024 .bf16) :: L) (congrArg k0_pay28 i6) H6
      have H8 : sound_body.sl.He_8 m c = ([7,6,5,4,3,2,1,0] : List (Fin 8)).map (wP (expert m c)) :=
        congrArg₂ (fun (w : Vec F S1x1024x1024 .bf16) L => (⟨wR 7, w⟩ : View.Piece (Elt F) S8x1024x1024 .bf16) :: L) (congrArg k0_pay31 i7) H7
      have e152 : sound_body.sl.v152 m c = expert m c 0 :=
        (congrArg (fun L => (Memref.whole cc0_scratch2 : Memref sig .tc .vmem S8x1024x1024 .bf16).view.readCov L (wR 0).toLoadRect) H1).trans
          (wRead _ (expert m c) 0 [0] (by decide))
      have e184 : sound_body.sl.v184 m c = expert m c 1 :=
        (congrArg (fun L => (Memref.whole cc0_scratch2 : Memref sig .tc .vmem S8x1024x1024 .bf16).view.readCov L (wR 1).toLoadRect) H2).trans
          (wRead _ (expert m c) 1 [1,0] (by decide))
      have e216 : sound_body.sl.v216 m c = expert m c 2 :=
        (congrArg (fun L => (Memref.whole cc0_scratch2 : Memref sig .tc .vmem S8x1024x1024 .bf16).view.readCov L (wR 2).toLoadRect) H3).trans
          (wRead _ (expert m c) 2 [2,1,0] (by decide))
      have e248 : sound_body.sl.v248 m c = expert m c 3 :=
        (congrArg (fun L => (Memref.whole cc0_scratch2 : Memref sig .tc .vmem S8x1024x1024 .bf16).view.readCov L (wR 3).toLoadRect) H4).trans
          (wRead _ (expert m c) 3 [3,2,1,0] (by decide))
      have e280 : sound_body.sl.v280 m c = expert m c 4 :=
        (congrArg (fun L => (Memref.whole cc0_scratch2 : Memref sig .tc .vmem S8x1024x1024 .bf16).view.readCov L (wR 4).toLoadRect) H5).trans
          (wRead _ (expert m c) 4 [4,3,2,1,0] (by decide))
      have e312 : sound_body.sl.v312 m c = expert m c 5 :=
        (congrArg (fun L => (Memref.whole cc0_scratch2 : Memref sig .tc .vmem S8x1024x1024 .bf16).view.readCov L (wR 5).toLoadRect) H6).trans
          (wRead _ (expert m c) 5 [5,4,3,2,1,0] (by decide))
      have e338 : sound_body.sl.v338 m c = expert m c 6 :=
        (congrArg (fun L => (Memref.whole cc0_scratch2 : Memref sig .tc .vmem S8x1024x1024 .bf16).view.readCov L (wR 6).toLoadRect) H7).trans
          (wRead _ (expert m c) 6 [6,5,4,3,2,1,0] (by decide))
      have e364 : sound_body.sl.v364 m c = expert m c 7 :=
        (congrArg (fun L => (Memref.whole cc0_scratch2 : Memref sig .tc .vmem S8x1024x1024 .bf16).view.readCov L (wR 7).toLoadRect) H8).trans
          (wRead _ (expert m c) 7 [7,6,5,4,3,2,1,0] (by decide))
      have eR : sound_body.sl.r m c = k0_pay2 (xin m c) (rwin m c) := by unfold sound_body.sl.r; rw [load_x, load_rw]
      have e127 : sound_body.sl.v127 m c = xsOf (xb m c) 2 c :=
        (load_rows 2 c (off1_2 c) _ _ _).trans (congrArg (fun X => xsOf (k0_pay1 X) 2 c) (load_x (xin m c)))
      have e130 : sound_body.sl.v130 m c = gsOf (gates m c) 2 c :=
        (load_gates 2 c (off2_2 c) _ _ _).trans (congrArg₂ (fun r i => gsOf (k0_pay3 (placeW c) r i) 2 c) eR (load_idx (idxin m c)))
      exact (stored1 fd1 _).trans (by
        unfold sound_body.sl.r_19 sound_body.sl.r_18 sound_body.sl.r_15 sound_body.sl.r_14 sound_body.sl.r_12 sound_body.sl.r_11 sound_body.sl.r_10 sound_body.sl.r_8 sound_body.sl.r_7 sound_body.sl.r_6 sound_body.sl.r_4 sound_body.sl.r_2
        rw [e127, e130, e152, e184, e216, e248, e280, e312, e338, e364]
        rfl)
    isplitl [Hn2]; · iexact Hn2
    isplitl [HO]; · iexact HO
    isplitl [HtS1]; · iexact HtS1
    isplitr; · iexact HRs1
    isplitl [HtP2]; · iexact HtP2
    iexact HRp2
  iintro ⟨HcS1, HO⟩
  sl_exec
  iapply (wp_send2 m K c _ (dev6_eq c) fn2 _) $$ [Hd2 Hn3 HO HtS2 HtP3]
  · isplitr; · iexact HIs2
    isplitr; · iexact HIp3
    isplitl [Hd2]
    · iexists _; isplitr [Hd2]; on_goal 2 => iexact Hd2
      ipureintro
      have i0 : sound_body.sl.v139 m c = expertIn m c 0 := stage0 m c 0 _ _
      have i1 : sound_body.sl.v171 m c = expertIn m c 1 := stage1 m c 1 _ _
      have i2 : sound_body.sl.v203 m c = expertIn m c 2 := stage0 m c 2 _ _
      have i3 : sound_body.sl.v235 m c = expertIn m c 3 := stage1 m c 3 _ _
      have i4 : sound_body.sl.v267 m c = expertIn m c 4 := stage0 m c 4 _ _
      have i5 : sound_body.sl.v299 m c = expertIn m c 5 := stage1 m c 5 _ _
      have i6 : sound_body.sl.v331 m c = expertIn m c 6 := stage0 m c 6 _ _
      have i7 : sound_body.sl.v357 m c = expertIn m c 7 := stage1 m c 7 _ _
      have H1 : sound_body.sl.He_1 m c = ([0] : List (Fin 8)).map (wP (expert m c)) :=
        congrArg₂ (fun (w : Vec F S1x1024x1024 .bf16) L => (⟨wR 0, w⟩ : View.Piece (Elt F) S8x1024x1024 .bf16) :: L) (congrArg k0_pay6 i0) (rfl : ([] : List (View.Piece (Elt F) S8x1024x1024 .bf16)) = [])
      have H2 : sound_body.sl.He_2 m c = ([1,0] : List (Fin 8)).map (wP (expert m c)) :=
        congrArg₂ (fun (w : Vec F S1x1024x1024 .bf16) L => (⟨wR 1, w⟩ : View.Piece (Elt F) S8x1024x1024 .bf16) :: L) (congrArg k0_pay9 i1) H1
      have H3 : sound_body.sl.He_3 m c = ([2,1,0] : List (Fin 8)).map (wP (expert m c)) :=
        congrArg₂ (fun (w : Vec F S1x1024x1024 .bf16) L => (⟨wR 2, w⟩ : View.Piece (Elt F) S8x1024x1024 .bf16) :: L) (congrArg k0_pay12 i2) H2
      have H4 : sound_body.sl.He_4 m c = ([3,2,1,0] : List (Fin 8)).map (wP (expert m c)) :=
        congrArg₂ (fun (w : Vec F S1x1024x1024 .bf16) L => (⟨wR 3, w⟩ : View.Piece (Elt F) S8x1024x1024 .bf16) :: L) (congrArg k0_pay17 i3) H3
      have H5 : sound_body.sl.He_5 m c = ([4,3,2,1,0] : List (Fin 8)).map (wP (expert m c)) :=
        congrArg₂ (fun (w : Vec F S1x1024x1024 .bf16) L => (⟨wR 4, w⟩ : View.Piece (Elt F) S8x1024x1024 .bf16) :: L) (congrArg k0_pay22 i4) H4
      have H6 : sound_body.sl.He_6 m c = ([5,4,3,2,1,0] : List (Fin 8)).map (wP (expert m c)) :=
        congrArg₂ (fun (w : Vec F S1x1024x1024 .bf16) L => (⟨wR 5, w⟩ : View.Piece (Elt F) S8x1024x1024 .bf16) :: L) (congrArg k0_pay26 i5) H5
      have H7 : sound_body.sl.He_7 m c = ([6,5,4,3,2,1,0] : List (Fin 8)).map (wP (expert m c)) :=
        congrArg₂ (fun (w : Vec F S1x1024x1024 .bf16) L => (⟨wR 6, w⟩ : View.Piece (Elt F) S8x1024x1024 .bf16) :: L) (congrArg k0_pay28 i6) H6
      have H8 : sound_body.sl.He_8 m c = ([7,6,5,4,3,2,1,0] : List (Fin 8)).map (wP (expert m c)) :=
        congrArg₂ (fun (w : Vec F S1x1024x1024 .bf16) L => (⟨wR 7, w⟩ : View.Piece (Elt F) S8x1024x1024 .bf16) :: L) (congrArg k0_pay31 i7) H7
      have eR : sound_body.sl.r m c = k0_pay2 (xin m c) (rwin m c) := by unfold sound_body.sl.r; rw [load_x, load_rw]
      have e440 : sound_body.sl.v440 m c = xsOf (xb m c) 3 c :=
        (load_rows 3 c (off1_3 c) _ _ _).trans (congrArg (fun X => xsOf (k0_pay1 X) 3 c) (load_x (xin m c)))
      have e443 : sound_body.sl.v443 m c = gsOf (gates m c) 3 c :=
        (load_gates 3 c (off2_3 c) _ _ _).trans (congrArg₂ (fun r i => gsOf (k0_pay3 (placeW c) r i) 3 c) eR (load_idx (idxin m c)))
      have e446 : sound_body.sl.v446 m c = expert m c 0 :=
        (congrArg (fun L => (Memref.whole cc0_scratch2 : Memref sig .tc .vmem S8x1024x1024 .bf16).view.readCov L (wR 0).toLoadRect) H8).trans
          (wRead _ (expert m c) 0 [7,6,5,4,3,2,1,0] (by decide))
      have e453 : sound_body.sl.v453 m c = expert m c 1 :=
        (congrArg (fun L => (Memref.whole cc0_scratch2 : Memref sig .tc .vmem S8x1024x1024 .bf16).view.readCov L (wR 1).toLoadRect) H8).trans
          (wRead _ (expert m c) 1 [7,6,5,4,3,2,1,0] (by decide))
      have e460 : sound_body.sl.v460 m c = expert m c 2 :=
        (congrArg (fun L => (Memref.whole cc0_scratch2 : Memref sig .tc .vmem S8x1024x1024 .bf16).view.readCov L (wR 2).toLoadRect) H8).trans
          (wRead _ (expert m c) 2 [7,6,5,4,3,2,1,0] (by decide))
      have e467 : sound_body.sl.v467 m c = expert m c 3 :=
        (congrArg (fun L => (Memref.whole cc0_scratch2 : Memref sig .tc .vmem S8x1024x1024 .bf16).view.readCov L (wR 3).toLoadRect) H8).trans
          (wRead _ (expert m c) 3 [7,6,5,4,3,2,1,0] (by decide))
      have e474 : sound_body.sl.v474 m c = expert m c 4 :=
        (congrArg (fun L => (Memref.whole cc0_scratch2 : Memref sig .tc .vmem S8x1024x1024 .bf16).view.readCov L (wR 4).toLoadRect) H8).trans
          (wRead _ (expert m c) 4 [7,6,5,4,3,2,1,0] (by decide))
      have e481 : sound_body.sl.v481 m c = expert m c 5 :=
        (congrArg (fun L => (Memref.whole cc0_scratch2 : Memref sig .tc .vmem S8x1024x1024 .bf16).view.readCov L (wR 5).toLoadRect) H8).trans
          (wRead _ (expert m c) 5 [7,6,5,4,3,2,1,0] (by decide))
      have e488 : sound_body.sl.v488 m c = expert m c 6 :=
        (congrArg (fun L => (Memref.whole cc0_scratch2 : Memref sig .tc .vmem S8x1024x1024 .bf16).view.readCov L (wR 6).toLoadRect) H8).trans
          (wRead _ (expert m c) 6 [7,6,5,4,3,2,1,0] (by decide))
      have e495 : sound_body.sl.v495 m c = expert m c 7 :=
        (congrArg (fun L => (Memref.whole cc0_scratch2 : Memref sig .tc .vmem S8x1024x1024 .bf16).view.readCov L (wR 7).toLoadRect) H8).trans
          (wRead _ (expert m c) 7 [7,6,5,4,3,2,1,0] (by decide))
      exact (stored2 fd2 _).trans (by
        unfold sound_body.sl.r_23 sound_body.sl.r_22 sound_body.sl.r_21 sound_body.sl.r_20 sound_body.sl.cst_336
        rw [e440, e443, e446, e453, e460, e467, e474, e481, e488, e495]
        rfl)
    isplitl [Hn3]; · iexact Hn3
    isplitl [HO]; · iexact HO
    isplitl [HtS2]; · iexact HtS2
    isplitr; · iexact HRs2
    isplitl [HtP3]; · iexact HtP3
    iexact HRp3
  iintro ⟨HcS2, HO⟩
  sl_exec
  ihave Hp0 := (Entails.of_eq (pay_recv0 m c)) $$ HatR0_pay1
  icases Hp0 with ⟨%h0, %hh0, Hv0⟩
  ihave Hp1 := (Entails.of_eq (pay_recv1 m c)) $$ HatR1_pay1
  icases Hp1 with ⟨%h1, %hh1, Hv1⟩
  ihave Hp2 := (Entails.of_eq (pay_recv2 m c)) $$ HatR2_pay1
  icases Hp2 with ⟨%h2, %hh2, Hv2⟩
  sl_exec
  ihave Hq0 := (Entails.of_eq (pay_send0 m c)) $$ HatS0_pay1
  icases Hq0 with ⟨%q0, Hu0⟩
  ihave Hq1 := (Entails.of_eq (pay_send1 m c)) $$ HatS1_pay1
  icases Hq1 with ⟨%q1, Hu1⟩
  ihave Hq2 := (Entails.of_eq (pay_send2 m c)) $$ HatS2_pay1
  icases Hq2 with ⟨%q2, Hu2⟩
  imod (Rounds.cell_close EX (sched m) (Set.mem_univ (K (c, 0))) (fun h => h) (R := 0 + 1) (duties_later m (barCell c))) $$ [HatB] with Hz0
  · isplitr; · iexact HIb
    iexact HatB
  imod (Rounds.cell_close EX (sched m) (Set.mem_univ (K (c, 1))) (fun h => h) (R := 0 + 1) (duties_later m (sendCell c 0))) $$ [HatS0] with Hz1
  · isplitr; · iexact HIs0
    iexact HatS0
  imod (Rounds.cell_close EX (sched m) (Set.mem_univ (K (c, 2))) (fun h => h) (R := 0 + 1) (duties_later m (sendCell c 1))) $$ [HatS1] with Hz2
  · isplitr; · iexact HIs1
    iexact HatS1
  imod (Rounds.cell_close EX (sched m) (Set.mem_univ (K (c, 3))) (fun h => h) (R := 0 + 1) (duties_later m (sendCell c 2))) $$ [HatS2] with Hz3
  · isplitr; · iexact HIs2
    iexact HatS2
  imod (Rounds.cell_close EX (sched m) (Set.mem_univ (K (c, 4))) (fun h => h) (R := 0 + 1) (duties_later m (recvCell c 0))) $$ [HatR0] with Hz4
  · isplitr; · iexact HIr0
    iexact HatR0
  imod (Rounds.cell_close EX (sched m) (Set.mem_univ (K (c, 5))) (fun h => h) (R := 0 + 1) (duties_later m (recvCell c 1))) $$ [HatR1] with Hz5
  · isplitr; · iexact HIr1
    iexact HatR1
  imod (Rounds.cell_close EX (sched m) (Set.mem_univ (K (c, 6))) (fun h => h) (R := 0 + 1) (duties_later m (recvCell c 2))) $$ [HatR2] with Hz6
  · isplitr; · iexact HIr2
    iexact HatR2
  rw [wp_ret]; imodintro
  iapply Hk
  unfold bodyPost
  isplitl [Hx]; · iexists _; iexact Hx
  isplitl [Hg]; · iexists _; iexact Hg
  isplitl [He]; · iexists _; iexact He
  isplitl [Hs0]; · iexists _; iexact Hs0
  isplitl [Hs1]; · iexists _; iexact Hs1
  isplitl [Hu0]; · iexists _; iexact Hu0
  isplitl [Hu1]; · iexists _; iexact Hu1
  isplitl [Hu2]; · iexists _; iexact Hu2
  isplitl [Hv0]; · iexists _; iexact Hv0
  isplitl [Hv1]; · iexists _; iexact Hv1
  isplitl [Hv2]; · iexists _; iexact Hv2
  isplitl [Hz0]; · iexact Hz0
  isplitl [Hc0]; · iexact Hc0
  isplitl [Hc1]; · iexact Hc1
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [H3]; · iexact H3
  isplitl [HO]; · iexists _; iexact HO
  isplitl [H0]; · iexact H0
  isplitl [H1]; · iexact H1
  isplitl [H2]; · iexact H2
  isplitl [HS]; · iexact HS
  iexists _; isplitr [Hout]; on_goal 2 => iexact Hout
  ipureintro
  have i0 : sound_body.sl.v139 m c = expertIn m c 0 := stage0 m c 0 _ _
  have i1 : sound_body.sl.v171 m c = expertIn m c 1 := stage1 m c 1 _ _
  have i2 : sound_body.sl.v203 m c = expertIn m c 2 := stage0 m c 2 _ _
  have i3 : sound_body.sl.v235 m c = expertIn m c 3 := stage1 m c 3 _ _
  have i4 : sound_body.sl.v267 m c = expertIn m c 4 := stage0 m c 4 _ _
  have i5 : sound_body.sl.v299 m c = expertIn m c 5 := stage1 m c 5 _ _
  have i6 : sound_body.sl.v331 m c = expertIn m c 6 := stage0 m c 6 _ _
  have i7 : sound_body.sl.v357 m c = expertIn m c 7 := stage1 m c 7 _ _
  have H1 : sound_body.sl.He_1 m c = ([0] : List (Fin 8)).map (wP (expert m c)) :=
    congrArg₂ (fun (w : Vec F S1x1024x1024 .bf16) L => (⟨wR 0, w⟩ : View.Piece (Elt F) S8x1024x1024 .bf16) :: L) (congrArg k0_pay6 i0) (rfl : ([] : List (View.Piece (Elt F) S8x1024x1024 .bf16)) = [])
  have H2 : sound_body.sl.He_2 m c = ([1,0] : List (Fin 8)).map (wP (expert m c)) :=
    congrArg₂ (fun (w : Vec F S1x1024x1024 .bf16) L => (⟨wR 1, w⟩ : View.Piece (Elt F) S8x1024x1024 .bf16) :: L) (congrArg k0_pay9 i1) H1
  have H3 : sound_body.sl.He_3 m c = ([2,1,0] : List (Fin 8)).map (wP (expert m c)) :=
    congrArg₂ (fun (w : Vec F S1x1024x1024 .bf16) L => (⟨wR 2, w⟩ : View.Piece (Elt F) S8x1024x1024 .bf16) :: L) (congrArg k0_pay12 i2) H2
  have H4 : sound_body.sl.He_4 m c = ([3,2,1,0] : List (Fin 8)).map (wP (expert m c)) :=
    congrArg₂ (fun (w : Vec F S1x1024x1024 .bf16) L => (⟨wR 3, w⟩ : View.Piece (Elt F) S8x1024x1024 .bf16) :: L) (congrArg k0_pay17 i3) H3
  have H5 : sound_body.sl.He_5 m c = ([4,3,2,1,0] : List (Fin 8)).map (wP (expert m c)) :=
    congrArg₂ (fun (w : Vec F S1x1024x1024 .bf16) L => (⟨wR 4, w⟩ : View.Piece (Elt F) S8x1024x1024 .bf16) :: L) (congrArg k0_pay22 i4) H4
  have H6 : sound_body.sl.He_6 m c = ([5,4,3,2,1,0] : List (Fin 8)).map (wP (expert m c)) :=
    congrArg₂ (fun (w : Vec F S1x1024x1024 .bf16) L => (⟨wR 5, w⟩ : View.Piece (Elt F) S8x1024x1024 .bf16) :: L) (congrArg k0_pay26 i5) H5
  have H7 : sound_body.sl.He_7 m c = ([6,5,4,3,2,1,0] : List (Fin 8)).map (wP (expert m c)) :=
    congrArg₂ (fun (w : Vec F S1x1024x1024 .bf16) L => (⟨wR 6, w⟩ : View.Piece (Elt F) S8x1024x1024 .bf16) :: L) (congrArg k0_pay28 i6) H6
  have H8 : sound_body.sl.He_8 m c = ([7,6,5,4,3,2,1,0] : List (Fin 8)).map (wP (expert m c)) :=
    congrArg₂ (fun (w : Vec F S1x1024x1024 .bf16) L => (⟨wR 7, w⟩ : View.Piece (Elt F) S8x1024x1024 .bf16) :: L) (congrArg k0_pay31 i7) H7
  have eR : sound_body.sl.r m c = k0_pay2 (xin m c) (rwin m c) := by unfold sound_body.sl.r; rw [load_x, load_rw]
  have e528 : sound_body.sl.v528 m c = xsOf (xb m c) 0 c :=
    (load_rows 0 c (off3_0 c) _ _ _).trans (congrArg (fun X => xsOf (k0_pay1 X) 0 c) (load_x (xin m c)))
  have e531 : sound_body.sl.v531 m c = gsOf (gates m c) 0 c :=
    (load_gates 0 c (off4_0 c) _ _ _).trans (congrArg₂ (fun r i => gsOf (k0_pay3 (placeW c) r i) 0 c) eR (load_idx (idxin m c)))
  have e537 : sound_body.sl.v537 m c = expert m c 0 :=
    (congrArg (fun L => (Memref.whole cc0_scratch2 : Memref sig .tc .vmem S8x1024x1024 .bf16).view.readCov L (wR 0).toLoadRect) H8).trans
      (wRead _ (expert m c) 0 [7,6,5,4,3,2,1,0] (by decide))
  have e544 : sound_body.sl.v544 m c = expert m c 1 :=
    (congrArg (fun L => (Memref.whole cc0_scratch2 : Memref sig .tc .vmem S8x1024x1024 .bf16).view.readCov L (wR 1).toLoadRect) H8).trans
      (wRead _ (expert m c) 1 [7,6,5,4,3,2,1,0] (by decide))
  have e551 : sound_body.sl.v551 m c = expert m c 2 :=
    (congrArg (fun L => (Memref.whole cc0_scratch2 : Memref sig .tc .vmem S8x1024x1024 .bf16).view.readCov L (wR 2).toLoadRect) H8).trans
      (wRead _ (expert m c) 2 [7,6,5,4,3,2,1,0] (by decide))
  have e558 : sound_body.sl.v558 m c = expert m c 3 :=
    (congrArg (fun L => (Memref.whole cc0_scratch2 : Memref sig .tc .vmem S8x1024x1024 .bf16).view.readCov L (wR 3).toLoadRect) H8).trans
      (wRead _ (expert m c) 3 [7,6,5,4,3,2,1,0] (by decide))
  have e565 : sound_body.sl.v565 m c = expert m c 4 :=
    (congrArg (fun L => (Memref.whole cc0_scratch2 : Memref sig .tc .vmem S8x1024x1024 .bf16).view.readCov L (wR 4).toLoadRect) H8).trans
      (wRead _ (expert m c) 4 [7,6,5,4,3,2,1,0] (by decide))
  have e572 : sound_body.sl.v572 m c = expert m c 5 :=
    (congrArg (fun L => (Memref.whole cc0_scratch2 : Memref sig .tc .vmem S8x1024x1024 .bf16).view.readCov L (wR 5).toLoadRect) H8).trans
      (wRead _ (expert m c) 5 [7,6,5,4,3,2,1,0] (by decide))
  have e579 : sound_body.sl.v579 m c = expert m c 6 :=
    (congrArg (fun L => (Memref.whole cc0_scratch2 : Memref sig .tc .vmem S8x1024x1024 .bf16).view.readCov L (wR 6).toLoadRect) H8).trans
      (wRead _ (expert m c) 6 [7,6,5,4,3,2,1,0] (by decide))
  have e586 : sound_body.sl.v586 m c = expert m c 7 :=
    (congrArg (fun L => (Memref.whole cc0_scratch2 : Memref sig .tc .vmem S8x1024x1024 .bf16).view.readCov L (wR 7).toLoadRect) H8).trans
      (wRead _ (expert m c) 7 [7,6,5,4,3,2,1,0] (by decide))
  refine (stored_out _ _).trans ?_
  unfold sound_body.sl.r_27 sound_body.sl.r_26 sound_body.sl.r_25 sound_body.sl.r_24
  rw [load_s, e528, e531, e537, e544, e551, e558, e565, e572, e579, e586]
  rfl

end Cert.IdealMoe
end
-- ==== Proof.IdealLaunch.lean ====
/-
# The launch of the mixture-of-experts kernel

The exchange's cells are funded and opened for all four devices at once, the duty tokens dealt to the devices that pay them,
and the body's run becomes a run of the whole program: every result array holds `outAt`, every argument what it held, every
counter is zero.
-/
module

public import proofs.«01_k».proof.Proof.IdealBody
public import proofs.«01_k».proof.Proof.Gen.KernelIdeal.Points
public import Idealize.ShloMosaic.Lib.Ring
public import Idealize.ShloMosaic.Lib.Pipeline.ValueKit
public import Idealize.ShloMosaic.Lib.Quiescent
public import Idealize.ShloMosaic.Lib.Pipeline.CollectiveSegs

@[expose] public section

set_option maxRecDepth 16384

noncomputable section

namespace Cert.IdealMoe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The buffers cut into their slots -/

/-- An element lies in slot `k` of a buffer of three slots exactly when its first coordinate is `k`. -/
theorem mem_R0 (i : S3x512x1024.Idx) : Iff (i ∈ R0.set) ((i 0).val = 0) := by
  rw [Rect.mem_set_unit]
  constructor
  · intro h; have := (h 0).2; exact Nat.lt_one_iff.mp (by simpa using this)
  · intro h a; fin_cases a
    · exact ⟨Nat.zero_le _, by show (i 0).val < 0 + 1; omega⟩
    · exact ⟨Nat.zero_le _, by show (i 1).val < 0 + 512; have : (i 1).val < 512 := (i 1).isLt; omega⟩
    · exact ⟨Nat.zero_le _, by show (i 2).val < 0 + 1024; have : (i 2).val < 1024 := (i 2).isLt; omega⟩
theorem mem_R1 (i : S3x512x1024.Idx) : Iff (i ∈ R1.set) ((i 0).val = 1) := by
  rw [Rect.mem_set_unit]
  constructor
  · intro h; obtain ⟨h1, h2⟩ := h 0; change 1 ≤ (i 0).val at h1; change (i 0).val < 1 + 1 at h2; omega
  · intro h a; fin_cases a
    · exact ⟨by show 1 ≤ (i 0).val; omega, by show (i 0).val < 1 + 1; omega⟩
    · exact ⟨Nat.zero_le _, by show (i 1).val < 0 + 512; have : (i 1).val < 512 := (i 1).isLt; omega⟩
    · exact ⟨Nat.zero_le _, by show (i 2).val < 0 + 1024; have : (i 2).val < 1024 := (i 2).isLt; omega⟩
theorem mem_R2 (i : S3x512x1024.Idx) : Iff (i ∈ R2.set) ((i 0).val = 2) := by
  rw [Rect.mem_set_unit]
  constructor
  · intro h; obtain ⟨h1, h2⟩ := h 0; change 2 ≤ (i 0).val at h1; change (i 0).val < 2 + 1 at h2; omega
  · intro h a; fin_cases a
    · exact ⟨by show 2 ≤ (i 0).val; omega, by show (i 0).val < 2 + 1; omega⟩
    · exact ⟨Nat.zero_le _, by show (i 1).val < 0 + 512; have : (i 1).val < 512 := (i 1).isLt; omega⟩
    · exact ⟨Nat.zero_le _, by show (i 2).val < 0 + 1024; have : (i 2).val < 1024 := (i 2).isLt; omega⟩

/-- The same for the two slots of the staging buffer of the experts. -/
abbrev G0 : Rect S2x1024x1024 := Rect.unit (s := S2x1024x1024) ![0, 0, 0] S1x1024x1024.size inb_S2x1024x1024_S1x1024x1024_0_0_0
abbrev G1 : Rect S2x1024x1024 := Rect.unit (s := S2x1024x1024) ![1, 0, 0] S1x1024x1024.size inb_S2x1024x1024_S1x1024x1024_1_0_0
theorem mem_G0 (i : S2x1024x1024.Idx) : Iff (i ∈ G0.set) ((i 0).val = 0) := by
  rw [Rect.mem_set_unit]
  constructor
  · intro h; have h2 := (h 0).2; change (i 0).val < 0 + 1 at h2; omega
  · intro h a; fin_cases a
    · exact ⟨Nat.zero_le _, by show (i 0).val < 0 + 1; omega⟩
    · exact ⟨Nat.zero_le _, by show (i 1).val < 0 + 1024; have : (i 1).val < 1024 := (i 1).isLt; omega⟩
    · exact ⟨Nat.zero_le _, by show (i 2).val < 0 + 1024; have : (i 2).val < 1024 := (i 2).isLt; omega⟩
theorem mem_G1 (i : S2x1024x1024.Idx) : Iff (i ∈ G1.set) ((i 0).val = 1) := by
  rw [Rect.mem_set_unit]
  constructor
  · intro h; obtain ⟨h1, h2⟩ := h 0; change 1 ≤ (i 0).val at h1; change (i 0).val < 1 + 1 at h2; omega
  · intro h a; fin_cases a
    · exact ⟨by show 1 ≤ (i 0).val; omega, by show (i 0).val < 1 + 1; omega⟩
    · exact ⟨Nat.zero_le _, by show (i 1).val < 0 + 1024; have : (i 1).val < 1024 := (i 1).isLt; omega⟩
    · exact ⟨Nat.zero_le _, by show (i 2).val < 0 + 1024; have : (i 2).val < 1024 := (i 2).isLt; omega⟩

def slots3 (k : Fin 3) : Finset S3x512x1024.Idx := match k with | 0 => R0.set | 1 => R1.set | 2 => R2.set
def slots2 (k : Fin 2) : Finset S2x1024x1024.Idx := match k with | 0 => G0.set | 1 => G1.set
theorem mem_slots3 (k : Fin 3) (i : S3x512x1024.Idx) : Iff (i ∈ slots3 k) ((i 0).val = k.val) := by
  fin_cases k
  · exact mem_R0 i
  · exact mem_R1 i
  · exact mem_R2 i
theorem mem_slots2 (k : Fin 2) (i : S2x1024x1024.Idx) : Iff (i ∈ slots2 k) ((i 0).val = k.val) := by
  fin_cases k
  · exact mem_G0 i
  · exact mem_G1 i
theorem slots3_disjoint (k k' : Fin 3) (h : k ≠ k') : Disjoint (slots3 k) (slots3 k') :=
  Finset.disjoint_left.mpr fun i hi hi' => h (Fin.ext (((mem_slots3 k i).mp hi).symm.trans ((mem_slots3 k' i).mp hi')))
theorem slots2_disjoint (k k' : Fin 2) (h : k ≠ k') : Disjoint (slots2 k) (slots2 k') :=
  Finset.disjoint_left.mpr fun i hi hi' => h (Fin.ext (((mem_slots2 k i).mp hi).symm.trans ((mem_slots2 k' i).mp hi')))
theorem slots3_cover : Finset.univ.biUnion slots3 = Finset.univ :=
  Finset.eq_univ_of_forall fun i => Finset.mem_biUnion.mpr ⟨⟨(i 0).val, (i 0).isLt⟩, Finset.mem_univ _, (mem_slots3 _ i).mpr rfl⟩
theorem slots2_cover : Finset.univ.biUnion slots2 = Finset.univ :=
  Finset.eq_univ_of_forall fun i => Finset.mem_biUnion.mpr ⟨⟨(i 0).val, (i 0).isLt⟩, Finset.mem_univ _, (mem_slots2 _ i).mpr rfl⟩

theorem set_sS0 : sS0.view.set = R0.set := (Memref.set_view_squeeze _ _).trans (View.set_slice_whole cc0_scratch4 R0)
theorem set_sS1 : sS1.view.set = R1.set := (Memref.set_view_squeeze _ _).trans (View.set_slice_whole cc0_scratch4 R1)
theorem set_sS2 : sS2.view.set = R2.set := (Memref.set_view_squeeze _ _).trans (View.set_slice_whole cc0_scratch4 R2)
theorem set_rS0 : rS0.view.set = R0.set := (Memref.set_view_squeeze _ _).trans (View.set_slice_whole cc0_scratch5 R0)
theorem set_rS1 : rS1.view.set = R1.set := (Memref.set_view_squeeze _ _).trans (View.set_slice_whole cc0_scratch5 R1)
theorem set_rS2 : rS2.view.set = R2.set := (Memref.set_view_squeeze _ _).trans (View.set_slice_whole cc0_scratch5 R2)
theorem set_gS0 : gS0.view.set = G0.set := (Memref.set_view_squeeze _ _).trans (View.set_slice_whole cc0_scratch3 G0)
theorem set_gS1 : gS1.view.set = G1.set := (Memref.set_view_squeeze _ _).trans (View.set_slice_whole cc0_scratch3 G1)

theorem bigSep_fin2 (Φ : Fin 2 → sProp 𝕄) : bigSep Finset.univ Φ = iprop(Φ 0 ∗ Φ 1) := bigSep_univ_eq_bigSepL [0, 1] (by decide) (by decide) Φ
theorem bigSep_fin3 (Φ : Fin 3 → sProp 𝕄) : bigSep Finset.univ Φ = iprop(Φ 0 ∗ Φ 1 ∗ Φ 2) := bigSep_univ_eq_bigSepL [0, 1, 2] (by decide) (by decide) Φ

/-- The send buffer held whole is held slot by slot, and slots held at any contents make up the buffer; -/
theorem cut_send (c : Dev nD) (f : Buf (Elt F) ((c : Thread nD τ).loc cc0_scratch4)) :
    ((((c : Thread nD τ).loc cc0_scratch4) ↦{fullShare} f) : sProp 𝕄)
      ⊢ iprop((sS0.view.loc (c : Thread nD τ) ↦[sS0.view.set]{fullShare} f) ∗ (sS1.view.loc (c : Thread nD τ) ↦[sS1.view.set]{fullShare} f)
        ∗ (sS2.view.loc (c : Thread nD τ) ↦[sS2.view.set]{fullShare} f)) := by
  rw [Ring.pointsTo_blocks (ℓ := (c : Thread nD τ).loc cc0_scratch4) slots3 slots3_disjoint slots3_cover f, bigSep_fin3, set_sS0, set_sS1, set_sS2]
  exact BI.Entails.refl _
include m in
theorem join_send (c : Dev nD) :
    iprop((∃ f, sS0.view.loc (c : Thread nD τ) ↦[sS0.view.set]{fullShare} f) ∗ (∃ f, sS1.view.loc (c : Thread nD τ) ↦[sS1.view.set]{fullShare} f)
        ∗ (∃ f, sS2.view.loc (c : Thread nD τ) ↦[sS2.view.set]{fullShare} f))
      ⊢ (iprop(∃ f, ((c : Thread nD τ).loc cc0_scratch4) ↦{fullShare} f) : sProp 𝕄) := by
  refine BIBase.Entails.trans ?_ (Ring.pointsTo_blocks_join_exists (ℓ := (c : Thread nD τ).loc cc0_scratch4) slots3 slots3_disjoint slots3_cover
    (m ((c : Thread nD τ).loc cc0_scratch4)))
  rw [bigSep_fin3, set_sS0, set_sS1, set_sS2]
  exact BI.Entails.refl _
/-- the receive buffer likewise; -/
theorem cut_recv (c : Dev nD) (f : Buf (Elt F) ((c : Thread nD τ).loc cc0_scratch5)) :
    ((((c : Thread nD τ).loc cc0_scratch5) ↦{fullShare} f) : sProp 𝕄) ⊢ iprop(rPts c 0 f ∗ rPts c 1 f ∗ rPts c 2 f) := by
  rw [Ring.pointsTo_blocks (ℓ := (c : Thread nD τ).loc cc0_scratch5) slots3 slots3_disjoint slots3_cover f, bigSep_fin3]
  unfold rPts
  rw [set_rS0, set_rS1, set_rS2]
  exact BI.Entails.refl _
include m in
theorem join_recv (c : Dev nD) :
    iprop((∃ f, rS0.view.loc (c : Thread nD τ) ↦[rS0.view.set]{fullShare} f) ∗ (∃ f, rS1.view.loc (c : Thread nD τ) ↦[rS1.view.set]{fullShare} f)
        ∗ (∃ f, rS2.view.loc (c : Thread nD τ) ↦[rS2.view.set]{fullShare} f))
      ⊢ (iprop(∃ f, ((c : Thread nD τ).loc cc0_scratch5) ↦{fullShare} f) : sProp 𝕄) := by
  refine BIBase.Entails.trans ?_ (Ring.pointsTo_blocks_join_exists (ℓ := (c : Thread nD τ).loc cc0_scratch5) slots3 slots3_disjoint slots3_cover
    (m ((c : Thread nD τ).loc cc0_scratch5)))
  rw [bigSep_fin3, set_rS0, set_rS1, set_rS2]
  exact BI.Entails.refl _
/-- and the experts' staging buffer. -/
theorem cut_stage (c : Dev nD) (f : Buf (Elt F) ((c : Thread nD τ).loc cc0_scratch3)) :
    ((((c : Thread nD τ).loc cc0_scratch3) ↦{fullShare} f) : sProp 𝕄)
      ⊢ iprop((gS0.view.loc (c : Thread nD τ) ↦[gS0.view.set]{fullShare} f) ∗ (gS1.view.loc (c : Thread nD τ) ↦[gS1.view.set]{fullShare} f)) := by
  rw [Ring.pointsTo_blocks (ℓ := (c : Thread nD τ).loc cc0_scratch3) slots2 slots2_disjoint slots2_cover f, bigSep_fin2, set_gS0, set_gS1]
  exact BI.Entails.refl _
include m in
theorem join_stage (c : Dev nD) :
    iprop((∃ f, gS0.view.loc (c : Thread nD τ) ↦[gS0.view.set]{fullShare} f) ∗ (∃ f, gS1.view.loc (c : Thread nD τ) ↦[gS1.view.set]{fullShare} f))
      ⊢ (iprop(∃ f, ((c : Thread nD τ).loc cc0_scratch3) ↦{fullShare} f) : sProp 𝕄) := by
  refine BIBase.Entails.trans ?_ (Ring.pointsTo_blocks_join_exists (ℓ := (c : Thread nD τ).loc cc0_scratch3) slots2 slots2_disjoint slots2_cover
    (m ((c : Thread nD τ).loc cc0_scratch3)))
  rw [bigSep_fin2, set_gS0, set_gS1]
  exact BI.Entails.refl _

/-! ## The pipeline's proof data -/

/-- What a device starts with besides its scratch buffers, -/
def start (c : Dev nD) : sProp 𝕄 :=
  iprop(((∃ K, ghost m K c) ∗ copies c) ∗ credits c ∗ levAts L lv ∗ (((c : Thread nD τ).loc main_arg3) ↦{fullShare} m ((c : Thread nD τ).loc main_arg3)))
/-- its own eight semaphores at zero, -/
def ownZero (c : Dev nD) : sProp 𝕄 :=
  iprop(semVal ((c : Thread nD τ), .dma copyS0) 0 ∗ semVal ((c : Thread nD τ), .dma copyS1) 0
    ∗ semVal (sendCell c 0) 0 ∗ semVal (sendCell c 1) 0 ∗ semVal (sendCell c 2) 0
    ∗ semVal (recvCell c 0) 0 ∗ semVal (recvCell c 1) 0 ∗ semVal (recvCell c 2) 0)
/-- and what it keeps of the launch to the end: its barrier's counter and the experts. -/
def kept (c : Dev nD) : sProp 𝕄 :=
  iprop(semVal (barCell c) 0 ∗ (((c : Thread nD τ).loc main_arg3) ↦{fullShare} m ((c : Thread nD τ).loc main_arg3)))

/-- What a device holds before and after the one grid point. -/
def Φ₀ (c : Dev nD) : sProp 𝕄 := iprop(start m c ∗ Pipeline.scopedRest cfg0.spec c)
def Φ₁ (c : Dev nD) : sProp 𝕄 := iprop(kept m c ∗ ownZero c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => rwin m c
    | ⟨2, _⟩ => idxin m c
    | ⟨3, _⟩ => swin m c
    | ⟨4, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at contents named by an equation. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def obPre (c : Dev nD) : sProp 𝕄 :=
  iprop(Φ₀ m c ∗ (dats m 0 c).owesAt () (t0_0 : Fin cfg0.N).castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))
def obPost (c : Dev nD) : sProp 𝕄 :=
  iprop(Φ₁ m c ∗ (dats m 0 c).owesAt () (t0_0 : Fin cfg0.N).succ
    ∗ stg c cc0_stg0_0 (xin m c) ∗ stg c cc0_stg1_0 (rwin m c) ∗ stg c cc0_stg2_0 (idxin m c) ∗ stg c cc0_stg3_0 (swin m c)
    ∗ stg c cc0_stg4_0 (outAt m c))

theorem before_0 (c : Dev nD) (d) : (dats m 0 c).before (0 : Fin 5) t0_0 d = xin m c := by
  unfold Dat.before; rw [if_pos (fetch0_0 t0_0)]; rfl
theorem before_1 (c : Dev nD) (d) : (dats m 0 c).before (1 : Fin 5) t0_0 d = rwin m c := by
  unfold Dat.before; rw [if_pos (fetch0_1 t0_0)]; rfl
theorem before_2 (c : Dev nD) (d) : (dats m 0 c).before (2 : Fin 5) t0_0 d = idxin m c := by
  unfold Dat.before; rw [if_pos (fetch0_2 t0_0)]; rfl
theorem before_3 (c : Dev nD) (d) : (dats m 0 c).before (3 : Fin 5) t0_0 d = swin m c := by
  unfold Dat.before; rw [if_pos (fetch0_3 t0_0)]; rfl

/-- What the body leaves is what the pipeline takes back. -/
theorem post_of_body (c : Dev nD) : bodyPost m c ⊢ obPost m c := by
  unfold bodyPost obPost Φ₁ kept ownZero Dat.owesAt Pipeline.owesWithin
  rw [show (dats m 0 c).owed (t0_0 : Fin cfg0.N).succ = 0 from rfl, scopedRest0_eq]
  iintro ⟨H0, H1, H2, Hg0, Hg1, Hs0, Hs1, Hs2, Hr0, Hr1, Hr2, Hb, Hc0, Hc1, Hz0, Hz1, Hz2, Hy0, Hy1, Hy2, Ha3, ⟨%W, HO⟩, Hx, Hw, Hi, Hv, Hout⟩
  ihave Hg := (join_stage m c) $$ [Hg0 Hg1]
  · isplitl [Hg0] <;> iassumption
  ihave Hs := (join_send m c) $$ [Hs0 Hs1 Hs2]
  · isplitl [Hs0]; · iexact Hs0
    isplitl [Hs1] <;> iassumption
  ihave Hr := (join_recv m c) $$ [Hr0 Hr1 Hr2]
  · isplitl [Hr0]; · iexact Hr0
    isplitl [Hr1] <;> iassumption
  isplitl [H0 H1 H2 Hg Hs Hr Hb Hc0 Hc1 Hz0 Hz1 Hz2 Hy0 Hy1 Hy2 Ha3]
  · isplitl [Hb Ha3]
    · isplitl [Hb] <;> iassumption
    isplitl [Hc0 Hc1 Hz0 Hz1 Hz2 Hy0 Hy1 Hy2]
    · isplitl [Hc0]; · iexact Hc0
      isplitl [Hc1]; · iexact Hc1
      isplitl [Hz0]; · iexact Hz0
      isplitl [Hz1]; · iexact Hz1
      isplitl [Hz2]; · iexact Hz2
      isplitl [Hy0]; · iexact Hy0
      isplitl [Hy1] <;> iassumption
    isplitl [H0]; · iexact H0
    isplitl [H1]; · iexact H1
    isplitl [H2]; · iexact H2
    isplitl [Hg]; · iexact Hg
    isplitl [Hs]; · iexact Hs
    iexact Hr
  isplitl [HO]
  · iexists W
    isplitr; · ipureintro; exact fun _ _ => Or.inl trivial
    iexact HO
  isplitl [Hx]
  · iexists (xin m c); isplitr; · (ipureintro; rfl)
    iexact Hx
  isplitl [Hw]
  · iexists (rwin m c); isplitr; · (ipureintro; rfl)
    iexact Hw
  isplitl [Hi]
  · iexists (idxin m c); isplitr; · (ipureintro; rfl)
    iexact Hi
  isplitl [Hv]
  · iexists (swin m c); isplitr; · (ipureintro; rfl)
    iexact Hv
  iexact Hout

/-- The body's obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show obPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole main_arg3) (Memref.isWhole_whole _)
      (Memref.whole cc0_stg3_0) (Memref.isWhole_whole _) (Memref.whole cc0_stg4_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8) (fun _ => obPost m c)
  unfold obPre Φ₀ start Dat.owesAt Pipeline.owesWithin
  rw [show (dats m 0 c).owed (t0_0 : Fin cfg0.N).castSucc = O₀ c from rfl, scopedRest0_eq]
  iintro ⟨⟨⟨⟨⟨%K, Hg⟩, Hcp⟩, Hcr, Hlev, Ha3⟩, ⟨%fx, Hfx⟩, ⟨%fg, Hfg⟩, ⟨%fe, Hfe⟩, ⟨%fs, Hfs⟩, ⟨%fd, Hfd⟩, ⟨%fr, Hfr⟩⟩, ⟨%W, %hW, HO⟩,
    ⟨%d0, %g0, %hg0, Hx⟩, ⟨%d1, %g1, %hg1, Hw⟩, ⟨%d2, %g2, %hg2, Hi⟩, ⟨%d3, %g3, %hg3, Hv⟩, ⟨%d4, %g4, %hg4, Hout⟩⟩
  have hx : g0 = xin m c := hg0.trans (before_0 m c d0)
  have hw : g1 = rwin m c := hg1.trans (before_1 m c d1)
  have hi : g2 = idxin m c := hg2.trans (before_2 m c d2)
  have hv : g3 = swin m c := hg3.trans (before_3 m c d3)
  subst hx hw hi hv
  ihave Hfs' := (cut_stage c fs) $$ Hfs
  icases Hfs' with ⟨Hs0, Hs1⟩
  ihave Hfd' := (cut_send c fd) $$ Hfd
  icases Hfd' with ⟨Hd0, Hd1, Hd2⟩
  ihave Hfr' := (cut_recv c fr) $$ Hfr
  icases Hfr' with ⟨Hr0, Hr1, Hr2⟩
  iapply (sound_body m K c W fx fg fe fs fs fd fd fd fr fr fr g4 fun _ => obPost m c)
  unfold bodyPre
  isplitr []
  · isplitl [Hg]; · iexact Hg
    isplitl [Hcr]; · iexact Hcr
    isplitl [Hlev]; · iexact Hlev
    isplitl [Hcp]; · iexact Hcp
    isplitl [HO]; · iexact HO
    isplitl [Ha3]; · iexact Ha3
    isplitl [Hfx]; · iexact Hfx
    isplitl [Hfg]; · iexact Hfg
    isplitl [Hfe]; · iexact Hfe
    isplitl [Hs0]; · iexact Hs0
    isplitl [Hs1]; · iexact Hs1
    isplitl [Hd0]; · iexact Hd0
    isplitl [Hd1]; · iexact Hd1
    isplitl [Hd2]; · iexact Hd2
    isplitl [Hr0]; · iexact Hr0
    isplitl [Hr1]; · iexact Hr1
    isplitl [Hr2]; · iexact Hr2
    isplitl [Hx]; · iexact Hx
    isplitl [Hw]; · iexact Hw
    isplitl [Hi]; · iexact Hi
    isplitl [Hv]; · iexact Hv
    iexact Hout
  · iapply (post_of_body m c)

/-! ## The launch -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective (kcell : Dev nD × Fin 7 → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- Every cell the exchange runs on. -/
def xCells : Finset (GSem nD τ sig) := Finset.univ.map ⟨kcell, kcell_injective⟩

/-- Which cell and which of its duties the nine tokens of a device stand for: its barrier's three, one of every other cell. -/
def tokKey : Fin 9 → Fin 7 × Fin 3
  | 0 => (0, 0) | 1 => (0, 1) | 2 => (0, 2) | 3 => (1, 0) | 4 => (2, 0) | 5 => (3, 0) | 6 => (4, 0) | 7 => (5, 0) | 8 => (6, 0)
theorem tokKey_injective : Function.Injective tokKey := by decide
def tokOf (cj : Dev nD × Fin 9) : GSem nD τ sig × ℕ × Fin 3 := (kcell (cj.1, (tokKey cj.2).1), 0, (tokKey cj.2).2)
theorem tokOf_injective : Function.Injective tokOf := by
  rintro ⟨c, j⟩ ⟨c', j'⟩ h
  have h1 := kcell_injective (congrArg Prod.fst h)
  have h2 : (tokKey j).2 = (tokKey j').2 := congrArg (fun x : GSem nD τ sig × ℕ × Fin 3 => x.2.2) h
  have h3 : tokKey j = tokKey j' := Prod.ext (congrArg Prod.snd h1) h2
  have h4 : c = c' := congrArg Prod.fst h1
  rw [h4, tokKey_injective h3]
def xToks : Finset (GSem nD τ sig × ℕ × Fin 3) := Finset.univ.map ⟨tokOf, tokOf_injective⟩

/-- The user resource at launch. -/
def u₀ : UU := (initOf (Pipeline.cells cfgs cellOf_inj) (Pipeline.launchToks cfgs cellOf_inj), (initOf xCells xToks, (1 : Counters)))

/-- The tokens of the duties at a device's own cells. -/
def toks (c : Dev nD) : sProp 𝕄 :=
  iprop(dutyTok EX (barCell c) 0 0 ∗ dutyTok EX (barCell c) 0 1 ∗ dutyTok EX (barCell c) 0 2
    ∗ dutyTok EX (sendCell c 0) 0 0 ∗ dutyTok EX (sendCell c 1) 0 0 ∗ dutyTok EX (sendCell c 2) 0 0
    ∗ dutyTok EX (recvCell c 0) 0 0 ∗ dutyTok EX (recvCell c 1) 0 0 ∗ dutyTok EX (recvCell c 2) 0 0)

/-- What the launch deals a device, and what the opening of the cells makes of it. -/
def G (c : Dev nD) : sProp 𝕄 :=
  iprop((bigSep Finset.univ fun k : Fin 7 => roundState EX (sched m) (kcell (c, k)) 0)
    ∗ (bigSep Finset.univ fun k : Fin 7 => iprop(atPos EX (kcell (c, k)) 0 ∅ 0 ∗ reached EX (kcell (c, k)) 0)) ∗ toks c)
def G' (c : Dev nD) : sProp 𝕄 := iprop((∃ K, ghost m K c) ∗ copies c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem over_cells (Φ : GSem nD τ sig → sProp 𝕄) :
    bigSep xCells Φ = bigSep Finset.univ fun c : Dev nD => bigSep Finset.univ fun k : Fin 7 => Φ (kcell (c, k)) := by
  unfold xCells; rw [bigSep_map, bigSep_univ_prod]; rfl
theorem over_toks : bigSep xToks (fun x => (dutyTok EX x.1 x.2.1 x.2.2 : sProp 𝕄)) = bigSep Finset.univ fun c : Dev nD => toks c := by
  unfold xToks; rw [bigSep_map, bigSep_univ_prod]
  exact bigSep_congr fun c _ => by unfold toks; rw [bigSep_fin9]; rfl

/-- The exchange's resource dealt to the devices. -/
theorem fund_x : BI.own (EX (initOf xCells xToks)) ⊢ (|==> bigSep Finset.univ (G m) : sProp 𝕄) := by
  iintro HX
  imod (Rounds.fund EX (sched m) xCells xToks) $$ HX with ⟨Hst, Hr, Hat, Htok⟩
  imodintro
  ihave Hst' := (Entails.of_eq (over_cells fun g => roundState EX (sched m) g 0)) $$ Hst
  ihave Hat' := (Entails.of_eq (over_cells (F := F) fun g => atPos EX g 0 ∅ 0)) $$ Hat
  ihave Hr' := (Entails.of_eq (over_cells (F := F) fun g => reached EX g 0)) $$ Hr
  ihave Htok' := (Entails.of_eq (over_toks (F := F))) $$ Htok
  unfold G; simp only [bigSep_sep']
  isplitl [Hst']; · iexact Hst'
  isplitl [Hat' Hr']
  · isplitl [Hat'] <;> iassumption
  iexact Htok'

theorem ownU_split (a : UR sig nD τ) (b : UX) : (ownU ((a, (b, (1 : Counters))) : UU) : sProp 𝕄) ⊢ iprop(BI.own (EP a) ∗ BI.own (EX b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The kernel's own semaphores, and the launch's one semaphore that is not scoped: the barrier's. -/
theorem ownSems0_eq (c : Dev nD) : (Pipeline.ownSems0 (Ix := Unit) (Name := ℕ) (U := UU) (Lvl := ℕ) (Val := Elt F) (τ := τ) osem c : sProp 𝕄) = ownZero c := by
  rw [Pipeline.ownSems0_eq_of_list c osem [0, 1, 2, 3, 4, 5, 6, 7] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ copies c) : sProp 𝕄) := by
  rw [ownSems0_eq, unscopedSems0_eq, bigSep_fin7]
  unfold ownZero copies
  iintro ⟨⟨H0, H1, H2, H3, H4, H5, H6, H7⟩, HB⟩
  isplitr [H0 H1]
  · isplitl [HB]; · iexact HB
    isplitl [H2]; · iexact H2
    isplitl [H3]; · iexact H3
    isplitl [H4]; · iexact H4
    isplitl [H5]; · iexact H5
    isplitl [H6] <;> iassumption
  · isplitl [H0] <;> iassumption

/-- A device's cells opened: an invariant each, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c ∗ copies c) := by
  unfold G
  iintro ⟨Hos, Hus, Hst, Hat, Htok⟩
  ihave Hv := (sems0_split (F := F) c) $$ [Hos Hus]
  · isplitl [Hos] <;> iassumption
  icases Hv with ⟨Hv, Hcp⟩
  imod (show iprop((bigSep Finset.univ fun k : Fin 7 => semVal (kcell (c, k)) 0) ∗ bigSep Finset.univ fun k : Fin 7 => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Every cell's invariant and the round it has reached: what all devices may open. -/
def records (K : Dev nD × Fin 7 → ℕ) : sProp 𝕄 :=
  iprop((bigSep Finset.univ fun ck : Dev nD × Fin 7 => cellInv EX (sched m) (K ck) (kcell ck))
    ∗ bigSep Finset.univ fun ck : Dev nD × Fin 7 => reached EX (kcell ck) 0)

instance records_persistent (K : Dev nD × Fin 7 → ℕ) : BI.Persistent (records m K) := by unfold records; infer_instance

theorem inv_at (K : Dev nD × Fin 7 → ℕ) (ck : Dev nD × Fin 7) : records m K ⊢ cellInv EX (sched m) (K ck) (kcell ck) := by
  unfold records
  exact sep_elim_left.trans (bigSep_elim (Φ := fun ck : Dev nD × Fin 7 => (cellInv EX (sched m) (K ck) (kcell ck) : sProp 𝕄)) (Finset.mem_univ ck))
theorem reached_at (K : Dev nD × Fin 7 → ℕ) (ck : Dev nD × Fin 7) : records m K ⊢ reached EX (kcell ck) 0 := by
  unfold records
  exact sep_elim_right.trans (bigSep_elim (Φ := fun ck : Dev nD × Fin 7 => (reached EX (kcell ck) 0 : sProp 𝕄)) (Finset.mem_univ ck))

theorem invs_intro (K : Dev nD × Fin 7 → ℕ) (c : Dev nD) : records m K ⊢ invs m K c := by
  unfold invs
  iintro #H
  isplitr; · iapply (inv_at m K (c, 0)); iexact H
  isplitr; · iapply (inv_at m K (c, 1)); iexact H
  isplitr; · iapply (inv_at m K (c, 2)); iexact H
  isplitr; · iapply (inv_at m K (c, 3)); iexact H
  isplitr; · iapply (inv_at m K (c, 4)); iexact H
  isplitr; · iapply (inv_at m K (c, 5)); iexact H
  isplitr; · iapply (inv_at m K (c, 6)); iexact H
  isplitr; · iapply (inv_at m K (fwd 1 c, 0)); iexact H
  isplitr; · iapply (inv_at m K (fwd 2 c, 0)); iexact H
  isplitr; · iapply (inv_at m K (fwd 3 c, 0)); iexact H
  isplitr; · iapply (inv_at m K (fwd 1 c, 4)); iexact H
  isplitr; · iapply (inv_at m K (fwd 2 c, 5)); iexact H
  iapply (inv_at m K (fwd 3 c, 6)); iexact H

theorem marks_intro (K : Dev nD × Fin 7 → ℕ) (c : Dev nD) : records m K ⊢ marks c := by
  unfold marks
  iintro #H
  isplitr; · iapply (reached_at m K (fwd 1 c, 0)); iexact H
  isplitr; · iapply (reached_at m K (fwd 2 c, 0)); iexact H
  isplitr; · iapply (reached_at m K (fwd 3 c, 0)); iexact H
  isplitr; · iapply (reached_at m K (c, 1)); iexact H
  isplitr; · iapply (reached_at m K (c, 2)); iexact H
  isplitr; · iapply (reached_at m K (c, 3)); iexact H
  isplitr; · iapply (reached_at m K (c, 4)); iexact H
  isplitr; · iapply (reached_at m K (c, 5)); iexact H
  iapply (reached_at m K (c, 6)); iexact H

/-- What a device takes of the dealing that no other may: its places, the duties it pays, its two copy cells. -/
def linear (c : Dev nD) : sProp 𝕄 := iprop(places c ∗ payToks c ∗ copies c)

theorem ghost_intro (K : Dev nD × Fin 7 → ℕ) (c : Dev nD) : iprop(records m K ∗ linear c) ⊢ G' m c := by
  unfold linear G' ghost
  iintro ⟨#H, Hp, Ht, Hc⟩
  isplitr [Hc]
  · iexists K
    isplitr; · iapply (invs_intro m K c); iexact H
    isplitr; · iapply (marks_intro m K c); iexact H
    isplitl [Hp] <;> iassumption
  · iexact Hc

/-- The tokens dealt to the devices that pay: each goes as many places along the ring as its payer stands away. -/
theorem toks_around : (bigSep Finset.univ fun c : Dev nD => (toks c : sProp 𝕄)) ⊢ bigSep Finset.univ fun c : Dev nD => payToks c := by
  unfold toks payToks
  simp only [bigSep_sep']
  rw [bigSep_univ_equiv ring1 (fun c : Dev nD => (dutyTok EX (barCell c) 0 0 : sProp 𝕄)),
    bigSep_univ_equiv ring2 (fun c : Dev nD => (dutyTok EX (barCell c) 0 1 : sProp 𝕄)),
    bigSep_univ_equiv ring3 (fun c : Dev nD => (dutyTok EX (barCell c) 0 2 : sProp 𝕄)),
    bigSep_univ_equiv ring1 (fun c : Dev nD => (dutyTok EX (recvCell c 0) 0 0 : sProp 𝕄)),
    bigSep_univ_equiv ring2 (fun c : Dev nD => (dutyTok EX (recvCell c 1) 0 0 : sProp 𝕄)),
    bigSep_univ_equiv ring3 (fun c : Dev nD => (dutyTok EX (recvCell c 2) 0 0 : sProp 𝕄))]
  iintro ⟨H1, H2, H3, H4, H5, H6, H7, H8, H9⟩
  isplitl [H1]; · iexact H1
  isplitl [H2]; · iexact H2
  isplitl [H3]; · iexact H3
  isplitl [H7]; · iexact H7
  isplitl [H8]; · iexact H8
  isplitl [H9]; · iexact H9
  isplitl [H4]; · iexact H4
  isplitl [H5] <;> iassumption

theorem deal_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places_of (c : Dev nD) : (bigSep Finset.univ fun k : Fin 7 => (atPos EX (kcell (c, k)) 0 ∅ 0 : sProp 𝕄)) ⊢ places c :=
  Entails.of_eq (by unfold places; rw [bigSep_fin7])

theorem regroup :
    (bigSep Finset.univ fun c : Dev nD => iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c ∗ copies c) : sProp 𝕄)
      ⊢ bigSep Finset.univ (G' m) := by
  rw [bigSep_sep', bigSep_sep', bigSep_sep', ← bigSep_univ_prod (fun ck : Dev nD × Fin 7 => iprop(∃ κ : ℕ, cellInv EX (sched m) κ (kcell ck))),
    bigSep_congr (s := Finset.univ) (fun (c : Dev nD) _ => bigSep_sep' Finset.univ (fun k : Fin 7 => (atPos EX (kcell (c, k)) 0 ∅ 0 : sProp 𝕄)) (fun k => reached EX (kcell (c, k)) 0)),
    bigSep_sep', ← bigSep_univ_prod (fun ck : Dev nD × Fin 7 => (reached EX (kcell ck) 0 : sProp 𝕄))]
  iintro ⟨HI, ⟨Hat, #HR⟩, Htok, Hcp⟩
  ihave HK := (BI.bigSep_exists_pi Finset.univ (fun (ck : Dev nD × Fin 7) (κ : ℕ) => (cellInv EX (sched m) κ (kcell ck) : sProp 𝕄))) $$ HI
  icases HK with ⟨%K, #HI⟩
  ihave Htk := (toks_around (F := F)) $$ Htok
  iapply (deal_with (R := records m K) fun c _ => ghost_intro m K c)
  isplitr
  · unfold records; isplitl; · iexact HI
    iexact HR
  · unfold linear
    simp only [bigSep_sep']
    isplitl [Hat]
    · iapply (show (bigSep Finset.univ fun c : Dev nD => bigSep Finset.univ fun k : Fin 7 => (atPos EX (kcell (c, k)) 0 ∅ 0 : sProp 𝕄))
          ⊢ bigSep Finset.univ fun c : Dev nD => places c from bigSep_mono fun c _ => places_of c)
      iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The credit dealt at launch -/

theorem tally_here (g g' : GSem nD τ sig) (n : ℕ) : (tallyAt g () n : CellTallies nD τ sig Unit) g' () = if g' = g then n else 0 := by
  rw [tallyAt_apply]; exact if_congr (and_iff_left rfl) rfl rfl

theorem bar_inj {a b : Dev nD} : Iff (barCell a = barCell b) (a = b) :=
  ⟨fun h => congrArg (fun g : GSem nD τ sig => g.1.1) h, fun h => h ▸ rfl⟩
theorem recv_inj {a b : Dev nD} {k l : Fin 3} : Iff (recvCell a k = recvCell b l) (a = b ∧ k = l) :=
  ⟨fun h => by
    have h1 : kcell (a, ⟨k.val + 4, by omega⟩) = kcell (b, ⟨l.val + 4, by omega⟩) := by
      fin_cases k <;> fin_cases l <;> exact h
    have h2 := kcell_injective h1
    exact ⟨congrArg Prod.fst h2, Fin.ext (by have := congrArg (fun p : Dev nD × Fin 7 => p.2.val) h2; simpa using this)⟩,
   fun ⟨h, h'⟩ => h ▸ h' ▸ rfl⟩
theorem bar_ne_recv {a b : Dev nD} {k : Fin 3} : barCell a ≠ recvCell b k := fun h => by
  have h1 : kcell (a, 0) = kcell (b, ⟨k.val + 4, by omega⟩) := by fin_cases k <;> exact h
  have h2 := congrArg (fun p : Dev nD × Fin 7 => p.2.val) (kcell_injective h1)
  simp at h2

theorem owed_bar (d c : Dev nD) :
    O₀ d (barCell c) () = (if c = fwd 3 d then 1 else 0) + (if c = fwd 2 d then 1 else 0) + (if c = fwd 1 d then 1 else 0) := by
  unfold O₀ OB2 OB3 O1 O2 O3
  simp only [Pi.add_apply, Finsupp.add_apply, tally_here, bar_inj, if_neg bar_ne_recv, Nat.zero_add]
theorem owed_recv (d c : Dev nD) (k : Fin 3) :
    O₀ d (recvCell c k) () = (if c = fwd 3 d ∧ k = 2 then N else 0) + (if c = fwd 2 d ∧ k = 1 then N else 0) + (if c = fwd 1 d ∧ k = 0 then N else 0) := by
  unfold O₀ OB2 OB3 O1 O2 O3
  simp only [Pi.add_apply, Finsupp.add_apply, tally_here, if_neg bar_ne_recv.symm, Nat.add_zero]
  exact congrArg₂ (· + ·) (congrArg₂ (· + ·) (if_congr (recv_inj (l := 2)) rfl rfl) (if_congr (recv_inj (l := 1)) rfl rfl))
    (if_congr (recv_inj (l := 0)) rfl rfl)

theorem sum_fwd (k : Fin 4) (c : Dev nD) (n : ℕ) : (∑ d : Dev nD, if c = fwd k d then n else 0) = n := by
  have h (d : Dev nD) : Iff (c = fwd k d) (d = c - k) := by
    revert c d; revert k; decide
  rw [Finset.sum_congr rfl fun d _ => if_congr (h d) rfl rfl, Finset.sum_ite_eq' Finset.univ (c - k) fun _ => n, if_pos (Finset.mem_univ _)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, sum_fwd, sum_fwd, sum_fwd]

theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_add_distrib,
    Finset.sum_add_distrib]
  fin_cases k
  · simp [sum_fwd]
  · simp [sum_fwd]
  · simp [sum_fwd]

theorem creds (c : Dev nD) : (Pipeline.launchCred O₀ c : sProp 𝕄) ⊢ credits c := by
  unfold Pipeline.launchCred credits
  refine (bigSep_subset (t := {SemLoc.reg barS, SemLoc.dma recvS0, SemLoc.dma recvS1, SemLoc.dma recvS2}) (Finset.subset_univ _)).trans ?_
  rw [bigSep_eq_bigSepL_of_eq [SemLoc.reg barS, SemLoc.dma recvS0, SemLoc.dma recvS1, SemLoc.dma recvS2] (by decide) (by decide),
    bigSepL_cons_cons, bigSepL_cons_cons, bigSepL_cons_cons, bigSepL_singleton]
  rw [← launch_bar, ← launch_recv, ← launch_recv, ← launch_recv]
  exact BI.Entails.refl _

/-! ### The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha3, Hlev, Hcr, -, HG⟩
  ihave Hc := (creds (F := F) c) $$ Hcr
  imodintro
  unfold start G'
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, ownSems0_eq]
  exact BI.Entails.refl _

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr (Or.inr rfl))

/-- What the end of a run is read for on one device: its own counter and the experts. -/
theorem kept_read (c : Dev nD) (s' : Phys nD τ sig (Elt F)) :
    iprop(kept m c ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg3) = m ((c : Thread nD τ).loc main_arg3)⌝ ∗ SI s') : sProp 𝕄) := by
  unfold kept
  rw [← unscopedSems0_eq]
  iintro ⟨⟨Hu, Ha⟩, -, HSI⟩
  icombine HSI Ha gives %ha
  imod (Pipeline.unscopedSems0_read (X := unscopedSems0 c) (c := c) fupd_intro s') $$ [Hu HSI] with ⟨%hu, HSI⟩
  · isplitl [Hu] <;> iassumption
  imodintro
  isplitr
  · ipureintro; exact ⟨hu, funext fun i => ha i (Finset.mem_univ i)⟩
  iexact HSI

/-- The result array after the run holds what the body left. -/
theorem final_out (c : Dev nD) : (dats m 0 c).arrAt (4 : Fin 5) cfg0.N = outAt m c := by
  refine Dat.arrAt_eq_of_after_last (dat := dats m 0 c) (4 : Fin 5) t0_0 (by decide +kernel) _ fun j => ?_
  rfl

/-- The end of a run: the result computed, the arguments as they were, the counters at zero. -/
def EndsWell (s : MemSt nD τ sig (Elt F)) : Prop :=
  (∀ c : Dev nD, s.mem ((c.tc : Thread nD τ).loc main_v1) = outAt m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.sem = fun _ => 0

/-- On the mesh of four devices, from any memory with zero counters, every weakly fair run of the program ends, with every
    device's result `outAt`, its arguments unchanged and every counter zero. -/
theorem run_main : θ_run defs (onTc (τ := τ) (main (F := F))) (s₀ m ρ) (fun r => EndsWell m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg3) = m ((c : Thread nD τ).loc main_arg3))
    (hY := kept_read m)
    (hQ := fun s h hs => ⟨fun c => ⟨((h c).1 (4 : Fin 5)).trans (final_out m c),
        ((h c).1 (0 : Fin 5)).trans ((dats m 0 c).arrAt_in (0 : Fin 5) rfl _),
        ((h c).1 (1 : Fin 5)).trans ((dats m 0 c).arrAt_in (1 : Fin 5) rfl _),
        ((h c).1 (2 : Fin 5)).trans ((dats m 0 c).arrAt_in (2 : Fin 5) rfl _),
        (h c).2.2.2,
        ((h c).1 (3 : Fin 5)).trans ((dats m 0 c).arrAt_in (3 : Fin 5) rfl _)⟩,
      sem_eq_zero hs fun c => (h c).2.2.1⟩)

end Cert.IdealMoe

end
-- ==== Proof.IdealReference.lean ====
/-
# The reference's value, entry by entry over the extended reals
-/
module

public import proofs.«01_k».proof.Proof.Gen.ReferenceIdeal.Run
public import Idealize.ShloMosaic.Lib.Pointwise
public import Idealize.ShloMosaic.Lib.ValueIdxCore
public import Idealize.ShloMosaic.Lib.Tactic.CleanTypes
public import Idealize.ShloMosaic.PureOps.Ideal

@[expose] public section

set_option maxRecDepth 16384

noncomputable section

namespace Cert.ReferenceMoe

open Cert.ReferenceIdeal Cert.ReferenceIdeal.Gen Cert.ReferenceIdeal.Value
open Idealize.ShloMosaic Idealize.SL.Sem

variable {α : Type}

/-- The gather along a row takes the row's entry at the start index, clamped into the row. -/
theorem gather_row (x : S2048x32.Idx → α) (idx : IVec S2048x1x1 32) (t : Fin 2048) (z : Fin 1) :
    Host.gather gather_S2048x32_S2048x1x1_S2048x1_n_1_0_0_1_2_11 x idx (ix2 t z)
      = x (ix2 t ⟨min (idx (ix3 t 0 0)).toInt.toNat 31, by omega⟩) := by
  unfold Host.gather
  congr 1
  funext a
  refine Fin.ext ?_
  have h01 : a = 0 ∨ a = 1 := by
    match a with
    | ⟨0, _⟩ => exact Or.inl rfl
    | ⟨1, _⟩ => exact Or.inr rfl
  show GatherDims.start _ (ix2 t z) idx a + GatherDims.batchCoord _ (ix2 t z) a + GatherDims.offCoord _ (ix2 t z) a = _
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S2048x32_S2048x1x1_S2048x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x32_S2048x1x1_S2048x1_n_1_0_0_1_2_11.startIndexMap from List.mem_singleton.mpr rfl)]
    have hsi : ∀ q, gather_S2048x32_S2048x1x1_S2048x1_n_1_0_0_1_2_11.siIdx (ix2 t z) q = ix3 t 0 0 := by
      intro q; funext b; refine Fin.ext ?_
      obtain rfl : z = 0 := Subsingleton.elim _ _
      obtain rfl : q = ⟨0, Nat.one_pos⟩ := Fin.ext (Nat.lt_one_iff.mp q.2)
      match b with
      | ⟨0, _⟩ => rfl
      | ⟨1, _⟩ => rfl
      | ⟨2, _⟩ => rfl
    rw [hsi]
    rfl

/-- The gather of matrices takes the matrix at the start index, clamped into the stack. -/
theorem gather_matrix (x : S32x1024x1024.Idx → α) (idx : IVec S2048x1 32) (t : Fin 2048) (k h : Fin 1024) :
    Host.gather gather_S32x1024x1024_S2048x1_S2048x1024x1024_12_0_n_n_0_1_110241024 x idx (ix3 t k h)
      = x (ix3 ⟨min (idx (ix2 t 0)).toInt.toNat 31, by omega⟩ k h) := by
  unfold Host.gather
  congr 1
  funext a
  refine Fin.ext ?_
  show GatherDims.start _ (ix3 t k h) idx a + GatherDims.batchCoord _ (ix3 t k h) a + GatherDims.offCoord _ (ix3 t k h) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1024x1024_S2048x1_S2048x1024x1024_12_0_n_n_0_1_110241024.startIndexMap from List.mem_singleton.mpr rfl)]
    have hsi : ∀ q, gather_S32x1024x1024_S2048x1_S2048x1024x1024_12_0_n_n_0_1_110241024.siIdx (ix3 t k h) q = ix2 t 0 := by
      intro q; funext b; refine Fin.ext ?_
      obtain rfl : q = ⟨0, Nat.one_pos⟩ := Fin.ext (Nat.lt_one_iff.mp q.2)
      match b with
      | ⟨0, _⟩ => rfl
      | ⟨1, _⟩ => rfl
    rw [hsi]
    rfl
  · unfold GatherDims.start
    rw [dif_neg (by decide)]
    simp only [Nat.zero_add, Nat.add_zero]
    unfold GatherDims.offCoord
    rw [dif_pos (by decide)]
    rfl
  · unfold GatherDims.start
    rw [dif_neg (by decide)]
    simp only [Nat.zero_add, Nat.add_zero]
    unfold GatherDims.offCoord
    rw [dif_pos (by decide)]
    rfl

/-! ## The reference's steps, named -/

/-- The named expert of every token, clamped into the 32 experts. -/
def clipped (w : IVec S2048x1 32) : IVec S2048 32 :=
  minsi (broadcastInDim S2048 ![] bcast_S_S2048 (id (constantI S_ 32 31#32)))
    (maxsi (broadcastInDim S2048 ![] bcast_S_S2048 (id (constantI S_ 32 0#32))) (shapeCast _ w shapeCasts_S2048x1_S2048))

/-- The same as a column, -/
def column (w : IVec S2048x1 32) : IVec S2048x1 32 := broadcastInDim S2048x1 ![0] bcast_S2048_S2048x1_0 (clipped w)

/-- with negative places counted from the end, as the start indices of the gather along a row, -/
def rowPlace (w : IVec S2048x1 32) : IVec S2048x1x1 32 :=
  shapeCast _ (select (cmpi .slt (column w) (broadcastInDim S2048x1 ![] bcast_S_S2048x1 (constantI S_ 32 0#32)))
    (addi (column w) (broadcastInDim S2048x1 ![] bcast_S_S2048x1 (constantI S_ 32 32#32))) (column w)) shapeCasts_S2048x1_S2048x1x1

/-- and as those of the gather of matrices. -/
def matrixPlace (w : IVec S2048x1 32) : IVec S2048x1 32 :=
  broadcastInDim S2048x1 ![0] bcast_S2048_S2048x1_0
    (select (cmpi .slt (clipped w) (broadcastInDim S2048 ![] bcast_S_S2048 (constantI S_ 32 0#32)))
      (addi (clipped w) (broadcastInDim S2048 ![] bcast_S_S2048 (constantI S_ 32 32#32))) (clipped w))

/-- Whether the gather's place lies in the row. -/
def inRow (w : IVec S2048x1 32) : IVec S2048x1 1 :=
  Host.reduce IntOp.andi (andi (cmpi .sge (rowPlace w) (broadcastInDim S2048x1x1 ![] bcast_S_S2048x1x1 (constantI S_ 32 0#32)))
    (cmpi .sle (rowPlace w) (broadcastInDim S2048x1x1 ![0, 1, 2] bcast_S1x1x1_S2048x1x1_0_1_2
      (broadcastInDim S1x1x1 ![2] bcast_S1_S1x1x1_2 (constantI S1 32 31#32))))) (constantI S_ 1 1#1)
    reducesTo_S2048x1x1_S2048x1_d2 h_S_

/-- Whether the token names an expert. -/
def named (w : IVec S2048x1 32) : IVec S2048 1 :=
  andi (cmpi .sge (shapeCast _ w shapeCasts_S2048x1_S2048) (broadcastInDim S2048 ![] bcast_S_S2048 (constantI S_ 32 0#32)))
    (cmpi .slt (shapeCast _ w shapeCasts_S2048x1_S2048) (broadcastInDim S2048 ![] bcast_S_S2048 (constantI S_ 32 32#32)))

/-- The router's scores, -/
def scores (x : Vec Ideal S2048x1024 .f32) (r : Vec Ideal S1024x32 .f32) : Vec Ideal S2048x32 .f32 :=
  Host.dotGeneral (F := Ideal) (φ₁ := .f32) (φ₂ := .f32) dot_S2048x1024_S1024x32_S2048x32_1_0_0_1_n_n none x r

/-- the exponentials of the scores less their row's greatest, -/
def weights (x : Vec Ideal S2048x1024 .f32) (r : Vec Ideal S1024x32 .f32) : FVec Ideal S2048x32 .f32 :=
  Host.exp (subf (scores x r) (broadcastInDim S2048x32 ![0, 1] bcast_S2048x1_S2048x32_0_1
    (broadcastInDim S2048x1 ![0] bcast_S2048_S2048x1_0
      (Host.reduce FloatOps.maximumf (scores x r) (constant S_ .f32 0xFF800000#32) reducesTo_S2048x32_S2048_d1 h_S_))))

/-- and the probabilities. -/
def probs (x : Vec Ideal S2048x1024 .f32) (r : Vec Ideal S1024x32 .f32) : FVec Ideal S2048x32 .f32 :=
  Host.divf (weights x r) (broadcastInDim S2048x32 ![0, 1] bcast_S2048x1_S2048x32_0_1
    (broadcastInDim S2048x1 ![0] bcast_S2048_S2048x1_0
      (Host.reduceAdd (weights x r) (constant S_ .f32 0x00000000#32) reducesTo_S2048x32_S2048_d1 h_S_)))

/-- Every token's gate. -/
def gate (x : Vec Ideal S2048x1024 .f32) (r : Vec Ideal S1024x32 .f32) (w : IVec S2048x1 32) : FVec Ideal S2048 .f32 :=
  select (named w) (shapeCast _ (select (inRow w)
      (Host.gather gather_S2048x32_S2048x1x1_S2048x1_n_1_0_0_1_2_11 (probs x r) (rowPlace w))
      (broadcastInDim S2048x1 ![] bcast_S_S2048x1 (constant S_ .f32 0x7FC00000#32))) shapeCasts_S2048x1_S2048)
    (broadcastInDim S2048 ![] bcast_S_S2048 (id (constant S_ .f32 0x00000000#32)))

/-- The whole value. -/
def whole (x : Vec Ideal S2048x1024 .f32) (r : Vec Ideal S1024x32 .f32) (w : IVec S2048x1 32)
    (E : Vec Ideal S32x1024x1024 .f32) (s : Vec Ideal S1024x1024 .f32) : Vec Ideal S2048x1024 .f32 :=
  addf (F := Ideal) (φ := .f32) (Host.dotGeneral (F := Ideal) (φ₁ := .f32) (φ₂ := .f32) dot_S2048x1024_S1024x1024_S2048x1024_1_0_0_1_n_n none x s)
    (mulf (broadcastInDim S2048x1024 ![0, 1] bcast_S2048x1_S2048x1024_0_1 (broadcastInDim S2048x1 ![0] bcast_S2048_S2048x1_0 (gate x r w)))
      (Host.dotGeneral (F := Ideal) (φ₁ := .f32) (φ₂ := .f32) dot_S2048x1024_S2048x1024x1024_S2048x1024_1_1_n_2_0_0 none x
        (Host.gather gather_S32x1024x1024_S2048x1_S2048x1024x1024_12_0_n_n_0_1_110241024 E (matrixPlace w))))

/-- The reference ends with the whole value of its five arguments. -/
theorem res_eq (m : (ℓ : Loc nD τ sig) → Buf (Elt Ideal) ℓ) (c : Dev nD) :
    res_main_v33 (F := Ideal) m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The steps at an entry -/

/-- The expert a word names, clamped into the 32 experts. -/
def expertOf (w : BitVec 32) : Fin 32 := ⟨min w.toInt.toNat 31, by omega⟩

theorem toInt_expert : ∀ e : Fin 32, (BitVec.ofNat 32 e.val).toInt = e.val := by decide

/-- Two experts of one word are one. -/
theorem word_inj (e e' : Fin 32) (h : BitVec.ofNat 32 e.val = BitVec.ofNat 32 e'.val) : e = e' := by
  have := congrArg BitVec.toInt h
  rw [toInt_expert, toInt_expert] at this
  exact Fin.ext (by omega)

/-- The greatest of zero and the word, then the least of 31 and that, is the word of the clamped expert. -/
theorem clamp_eq (w : BitVec 32) : IntOp.minsi 31#32 (IntOp.maxsi 0#32 w) = BitVec.ofNat 32 (expertOf w).val := by
  apply BitVec.eq_of_toInt_eq
  rw [toInt_expert]
  have h31 : (31#32 : BitVec 32).toInt = 31 := by decide
  have h0 : (0#32 : BitVec 32).toInt = 0 := by decide
  simp only [expertOf, IntOp.minsi, IntOp.maxsi, BitVec.slt, decide_eq_true_eq]
  split_ifs <;> omega

/-- The word of an expert, clamped, is that expert. -/
theorem clampPlace_eq (b : BitVec 32) (e : Fin 32) (h : min b.toInt.toNat 31 < 32) (hb : b = BitVec.ofNat 32 e.val) :
    (⟨min b.toInt.toNat 31, h⟩ : Fin 32) = e := by
  subst hb
  refine Fin.ext ?_
  show min _ 31 = e.val
  rw [toInt_expert]
  omega

/-- A word names an expert exactly when it is the word of its clamped expert. -/
theorem names_iff (w : BitVec 32) : w = BitVec.ofNat 32 (expertOf w).val ↔ 0 ≤ w.toInt ∧ w.toInt < 32 := by
  constructor
  · intro h
    have := congrArg BitVec.toInt h
    rw [toInt_expert] at this
    have := (expertOf w).isLt
    omega
  · intro h
    apply BitVec.eq_of_toInt_eq
    rw [toInt_expert]
    simp only [expertOf]
    omega

theorem clipped_apply (w : IVec S2048x1 32) (t : Fin 2048) :
    clipped w (ix1 t) = BitVec.ofNat 32 (expertOf (w (ix2 t 0))).val := by
  rw [← clamp_eq]
  pointwise [clipped]
  rfl

theorem rowPlace_apply (w : IVec S2048x1 32) (t : Fin 2048) :
    rowPlace w (ix3 t 0 0) = BitVec.ofNat 32 (expertOf (w (ix2 t 0))).val := by
  pointwise [rowPlace, column]
  rw [clipped_apply]
  generalize expertOf _ = e
  revert e
  decide

theorem matrixPlace_apply (w : IVec S2048x1 32) (t : Fin 2048) :
    matrixPlace w (ix2 t 0) = BitVec.ofNat 32 (expertOf (w (ix2 t 0))).val := by
  pointwise [matrixPlace]
  rw [clipped_apply]
  generalize expertOf _ = e
  revert e
  decide

theorem inRow_apply (w : IVec S2048x1 32) (t : Fin 2048) : inRow w (ix2 t 0) = 1#1 := by
  pointwise [inRow]
  have hz : ∀ z : Fin 1, rowPlace w (ix3 t 0 z) = BitVec.ofNat 32 (expertOf (w (ix2 t 0))).val := fun z => by
    obtain rfl : z = 0 := Subsingleton.elim _ _
    exact rowPlace_apply w t
  simp only [hz]
  generalize expertOf _ = e
  revert e
  decide

theorem named_apply (w : IVec S2048x1 32) (t : Fin 2048) :
    named w (ix1 t) = if w (ix2 t 0) = BitVec.ofNat 32 (expertOf (w (ix2 t 0))).val then 1#1 else 0#1 := by
  pointwise [named]
  generalize w _ = v
  simp only [names_iff]
  have h32 : (32#32 : BitVec 32).toInt = 32 := by decide
  have h0 : (0#32 : BitVec 32).toInt = 0 := by decide
  by_cases h₁ : 0 ≤ v.toInt <;> by_cases h₂ : v.toInt < 32 <;>
    simp [IntOp.cmpi, IntOp.andi, BitVec.slt, BitVec.sle, h32, h0, h₁, h₂]

/-- A token's exponential at an expert, -/
def weightAt (x : Vec Ideal S2048x1024 .f32) (r : Vec Ideal S1024x32 .f32) (t : Fin 2048) (e : Fin 32) : EReal :=
  Ideal.exp (∑ k : Fin 1024, x (ix2 t k) * r (ix2 k e)
    - Finset.fold max (Ideal.ofBits FTy.f32 0xFF800000#32) (fun e' : Fin 32 => ∑ k : Fin 1024, x (ix2 t k) * r (ix2 k e')) Finset.univ)

/-- and its probability. -/
def probAt (x : Vec Ideal S2048x1024 .f32) (r : Vec Ideal S1024x32 .f32) (t : Fin 2048) (e : Fin 32) : EReal :=
  Ideal.div (weightAt x r t e) (∑ e' : Fin 32, weightAt x r t e')

theorem scores_apply (x : Vec Ideal S2048x1024 .f32) (r : Vec Ideal S1024x32 .f32) (t : Fin 2048) (e : Fin 32) :
    scores x r (ix2 t e) = ∑ k : Fin 1024, x (ix2 t k) * r (ix2 k e) := by
  pointwise [scores]

theorem weights_apply (x : Vec Ideal S2048x1024 .f32) (r : Vec Ideal S1024x32 .f32) (t : Fin 2048) (e : Fin 32) :
    weights x r (ix2 t e) = weightAt x r t e := by
  pointwise [weights, weightAt]
  simp only [scores_apply]

theorem probs_apply (x : Vec Ideal S2048x1024 .f32) (r : Vec Ideal S1024x32 .f32) (t : Fin 2048) (e : Fin 32) :
    probs x r (ix2 t e) = probAt x r t e := by
  pointwise [probs, probAt]
  simp only [weights_apply]

/-- A token's gate: the named expert's probability, or zero where none is named. -/
theorem gate_apply (x : Vec Ideal S2048x1024 .f32) (r : Vec Ideal S1024x32 .f32) (w : IVec S2048x1 32) (t : Fin 2048) :
    gate x r w (ix1 t) = if w (ix2 t 0) = BitVec.ofNat 32 (expertOf (w (ix2 t 0))).val
      then probAt x r t (expertOf (w (ix2 t 0))) else 0 := by
  have hz : (id (constant (F := Ideal) S_ FTy.f32 0#32) ix0 : EReal) = 0 := Ideal.ofBits_zero_f32
  have hp : ∀ h, probs x r (ix2 t ⟨min (rowPlace w (ix3 t 0 0)).toInt.toNat 31, h⟩) = probAt x r t (expertOf (w (ix2 t 0))) := by
    intro h
    rw [clampPlace_eq _ _ h (rowPlace_apply w t), probs_apply]
  pointwise [gate]
  rw [named_apply, inRow_apply, gather_row, hp, hz]
  split_ifs <;> rfl

/-- The whole value: the shared product, and the gate times the product with the named expert's matrix. -/
theorem whole_apply (x : Vec Ideal S2048x1024 .f32) (r : Vec Ideal S1024x32 .f32) (w : IVec S2048x1 32)
    (E : Vec Ideal S32x1024x1024 .f32) (s : Vec Ideal S1024x1024 .f32) (t : Fin 2048) (h : Fin 1024) :
    whole x r w E s (ix2 t h) = (∑ k : Fin 1024, x (ix2 t k) * s (ix2 k h)) + gate x r w (ix1 t)
      * ∑ k : Fin 1024, x (ix2 t k) * E (ix3 (expertOf (w (ix2 t 0))) k h) := by
  have hm : ∀ k : Fin 1024, Host.gather gather_S32x1024x1024_S2048x1_S2048x1024x1024_12_0_n_n_0_1_110241024 E (matrixPlace w) (ix3 t k h)
      = E (ix3 (expertOf (w (ix2 t 0))) k h) := by
    intro k
    rw [gather_matrix, clampPlace_eq _ _ _ (matrixPlace_apply w t)]
  pointwise [whole]
  simp only [hm]

end Cert.ReferenceMoe

end

end
-- ==== Proof.IdealShares.lean ====
/-
# The shares a device computes, entry by entry over the extended reals
-/
module

public import proofs.«01_k».proof.Proof.IdealProtocol
public import proofs.«01_k».proof.Proof.IdealReference
public import Idealize.ShloMosaic.Lib.Pointwise
public import Idealize.ShloMosaic.PureOps.Ideal

@[expose] public section

set_option maxRecDepth 16384

noncomputable section

namespace Cert.IdealMoe

open Cert.KernelIdeal Cert.KernelIdeal.Gen
open Idealize.ShloMosaic Idealize.SL.Sem

/-- One row of a block times one column of an expert's matrix. -/
def prod (x : Vec Ideal S512x1024 .bf16) (w : Vec Ideal S1x1024x1024 .bf16) (r : Fin 512) (h : Fin 1024) : EReal :=
  ∑ k : Fin 1024, x (ix2 r k) * w (ix3 0 k h)

/-- The first share at an entry: the gated products of the eight experts, added up. -/
theorem share1_apply (x : Vec Ideal S512x1024 .bf16) (g : Vec Ideal S512x8 .f32) (w : Fin 8 → Vec Ideal S1x1024x1024 .bf16)
    (r : Fin 512) (h : Fin 1024) :
    share1 (F := Ideal) x g w (ix3 0 r h) = ∑ e : Fin 8, g (ix2 r e) * prod x (w e) r h := by
  unfold share1 prod
  rw [Fin.sum_univ_eight]
  pointwise [k0_pay33, k0_pay29, k0_pay27, k0_pay23, k0_pay18, k0_pay13, k0_pay10, k0_pay7, k0_pay4]

/-- The second share at an entry. -/
theorem share2_apply (x : Vec Ideal S512x1024 .bf16) (g : Vec Ideal S512x8 .f32) (w : Fin 8 → Vec Ideal S1x1024x1024 .bf16)
    (r : Fin 512) (h : Fin 1024) :
    share2 (F := Ideal) x g w (ix3 0 r h) = ∑ e : Fin 8, g (ix2 r e) * prod x (w e) r h := by
  unfold share2 prod
  rw [Fin.sum_univ_eight]
  pointwise [k0_pay34, k0_pay32, k0_pay30, k0_pay25, k0_pay24, k0_pay21, k0_pay20, k0_pay19, k0_pay16, k0_pay15, k0_pay14,
    k0_pay11, k0_pay8, k0_pay5]

/-- The third share at an entry. -/
theorem share3_apply (x : Vec Ideal S512x1024 .bf16) (g : Vec Ideal S512x8 .f32) (w : Fin 8 → Vec Ideal S1x1024x1024 .bf16)
    (r : Fin 512) (h : Fin 1024) :
    share3 (F := Ideal) x g w (ix3 0 r h) = ∑ e : Fin 8, g (ix2 r e) * prod x (w e) r h := by
  unfold share3 prod
  rw [Fin.sum_univ_eight]
  pointwise [k0_pay40, k0_pay39, k0_pay38, k0_pay37, k0_pay36, k0_pay35]

/-- A device's own share at an entry: the shared product, then the gated products of its eight experts. -/
theorem share0_apply (x : Vec Ideal S512x1024 .bf16) (g : Vec Ideal S512x8 .f32) (s : Vec Ideal S1024x1024 .f32)
    (w : Fin 8 → Vec Ideal S1x1024x1024 .bf16) (r : Fin 512) (h : Fin 1024) :
    share0 (F := Ideal) x g s w (ix2 r h)
      = (∑ k : Fin 1024, x (ix2 r k) * s (ix2 k h)) + ∑ e : Fin 8, g (ix2 r e) * prod x (w e) r h := by
  unfold share0 prod
  rw [Fin.sum_univ_eight]
  pointwise [k0_pay43, k0_pay42, k0_pay41]
  simp only [add_assoc]

/-- The four shares added. -/
theorem total_apply (a : Vec Ideal S512x1024 .f32) (b c d : Vec Ideal S1x512x1024 .bf16) (r : Fin 512) (h : Fin 1024) :
    k0_pay45 (F := Ideal) (k0_pay44 a b) c d (ix2 r h) = a (ix2 r h) + b (ix3 0 r h) + c (ix3 0 r h) + d (ix3 0 r h) := by
  pointwise [k0_pay45, k0_pay44]

/-- Rounding is the identity on the rows, -/
theorem pay1_apply (x : Vec Ideal S2048x1024 .f32) (t : Fin 2048) (k : Fin 1024) :
    k0_pay1 (F := Ideal) x (ix2 t k) = x (ix2 t k) := by
  pointwise [k0_pay1]

/-- and on an expert's matrix. -/
theorem pay6_apply (w : Vec Ideal S1x1024x1024 .f32) (k h : Fin 1024) :
    k0_pay6 (F := Ideal) w (ix3 0 k h) = w (ix3 0 k h) := by
  pointwise [k0_pay6]

/-- The scores less their row's greatest, exponentiated, at an entry. -/
theorem pay2_apply (x : Vec Ideal S2048x1024 .f32) (r : Vec Ideal S1024x32 .f32) (t : Fin 2048) (e : Fin 32) :
    Ideal.exp (k0_pay2 (F := Ideal) x r (ix2 t e)) = ReferenceMoe.weightAt x r t e := by
  pointwise [k0_pay2, ReferenceMoe.weightAt]

/-- A choice by the equality of two words. -/
theorem select_eq (a b : BitVec 32) (x y : EReal) :
    Scalar.select (IntOp.cmpi CmpIPredicate.eq a b) x y = if a = b then x else y := by
  by_cases h : a = b
  · subst h
    simp [IntOp.cmpi, Scalar.select]
  · have hb : (a == b) = false := beq_eq_false_iff_ne.mpr h
    simp [IntOp.cmpi, Scalar.select, h, hb]

/-- Taking the named entry out of a row by a masked sum. -/
theorem pick_sum (w : BitVec 32) (f : Fin 32 → EReal) :
    (∑ x : Fin 32, Scalar.select (IntOp.cmpi CmpIPredicate.eq (BitVec.ofNat 32 x.val) w) (f x) 0)
      = if w = BitVec.ofNat 32 (ReferenceMoe.expertOf w).val then f (ReferenceMoe.expertOf w) else 0 := by
  simp only [select_eq]
  by_cases hw : w = BitVec.ofNat 32 (ReferenceMoe.expertOf w).val
  · rw [if_pos hw, Finset.sum_eq_single (ReferenceMoe.expertOf w)]
    · rw [if_pos hw.symm]
    · intro b _ hb
      rw [if_neg]
      intro hbw
      exact hb (ReferenceMoe.word_inj _ _ (hbw.trans hw))
    · intro hn
      exact absurd (Finset.mem_univ _) hn
  · rw [if_neg hw]
    refine Finset.sum_eq_zero fun x _ => if_neg fun hx => hw ?_
    rw [ReferenceMoe.names_iff, ← hx, ReferenceMoe.toInt_expert]
    omega

/-- Eight times a device's place, as a word. -/
theorem base_eq (c : Dev nD) : Scalar.muli (placeW c) 8#32 = BitVec.ofNat 32 (8 * c.val) := by
  revert c
  decide

/-- The gates of device `c` at an entry: the token's gate where the token names the device's expert `e`, else zero. -/
theorem pay3_apply (c : Dev nD) (x : Vec Ideal S2048x1024 .f32) (r : Vec Ideal S1024x32 .f32) (idx : Vec Ideal S2048x1 .i32)
    (t : Fin 2048) (e : Fin 8) :
    k0_pay3 (F := Ideal) (placeW c) (k0_pay2 x r) idx (ix2 t e)
      = if idx (ix2 t 0) = BitVec.ofNat 32 (8 * c.val + e.val) then ReferenceMoe.gate x r idx (ix1 t) else 0 := by
  pointwise [k0_pay3]
  simp only [pay2_apply]
  rw [pick_sum, ReferenceMoe.gate_apply, base_eq]
  simp only [ReferenceMoe.probAt]
  rw [select_eq]
  refine if_congr ?_ rfl rfl
  generalize idx (ix2 t 0) = w
  have := e.isLt
  have := c.isLt
  simp only [IntOp.subi]
  bv_omega

end Cert.IdealMoe

end

end
-- ==== Proof.IdealResult.lean ====
/-
# A device's result is its block of the reference's value
-/
module

public import proofs.«01_k».proof.Proof.IdealShares
public import Idealize.ShloMosaic.Lib.Layout
public import Idealize.ShloMosaic.Lib.Pipeline.ValueKit

@[expose] public section

set_option maxRecDepth 16384

noncomputable section

namespace Cert.IdealMoe

open Cert.KernelIdeal Cert.KernelIdeal.Gen
open Idealize.ShloMosaic Idealize.SL.Sem

/-! ## The sum over all experts -/

/-- The gated products of one device's eight experts. -/
def part (w : BitVec 32) (G : EReal) (P : Fin 4 → Fin 8 → EReal) (d : Fin 4) : EReal :=
  ∑ e : Fin 8, (if w = BitVec.ofNat 32 (8 * d.val + e.val) then G else 0) * P d e

theorem part_zero (w : BitVec 32) (G : EReal) (P : Fin 4 → Fin 8 → EReal) (d : Fin 4)
    (h : ∀ e : Fin 8, w ≠ BitVec.ofNat 32 (8 * d.val + e.val)) : part w G P d = 0 :=
  Finset.sum_eq_zero fun e _ => by rw [if_neg (h e), zero_mul]

/-- The place of an expert among its device's, and the device. -/
def deviceOf (n : Fin 32) : Fin 4 := ⟨n.val / 8, by omega⟩
def withinOf (n : Fin 32) : Fin 8 := ⟨n.val % 8, by omega⟩

theorem word_lt_inj {a b : ℕ} (ha : a < 32) (hb : b < 32) (h : BitVec.ofNat 32 a = BitVec.ofNat 32 b) : a = b :=
  congrArg Fin.val (ReferenceMoe.word_inj ⟨a, ha⟩ ⟨b, hb⟩ h)

/-- All devices' gated products together are the gate times the named expert's product. -/
theorem part_sum (w : BitVec 32) (G : EReal) (P : Fin 4 → Fin 8 → EReal)
    (hG : w ≠ BitVec.ofNat 32 (ReferenceMoe.expertOf w).val → G = 0) :
    ∑ d : Fin 4, part w G P d
      = G * P (deviceOf (ReferenceMoe.expertOf w)) (withinOf (ReferenceMoe.expertOf w)) := by
  by_cases hw : w = BitVec.ofNat 32 (ReferenceMoe.expertOf w).val
  · generalize ReferenceMoe.expertOf w = n at hw hG
    subst hw
    rw [Finset.sum_eq_single (deviceOf n)]
    · unfold part
      rw [Finset.sum_eq_single (withinOf n)]
      · rw [if_pos]
        congr 1
        simp only [deviceOf, withinOf]
        omega
      · intro e _ he
        rw [if_neg, zero_mul]
        intro h
        have := word_lt_inj n.isLt (by have := (deviceOf n).isLt; omega) h
        refine he (Fin.ext ?_)
        simp only [deviceOf, withinOf] at this ⊢
        omega
      · exact fun h => absurd (Finset.mem_univ _) h
    · intro d _ hd
      refine part_zero _ _ _ _ fun e h => hd (Fin.ext ?_)
      have := word_lt_inj n.isLt (by omega) h
      simp only [deviceOf]
      omega
    · exact fun h => absurd (Finset.mem_univ _) h
  · rw [hG hw, zero_mul]
    refine Finset.sum_eq_zero fun d _ => Finset.sum_eq_zero fun e _ => ?_
    split_ifs <;> rw [zero_mul]

/-- The four devices' terms in the order a device adds them. -/
theorem ring_sum (f : Fin 4 → EReal) (a : EReal) (c : Fin 4) :
    a + f c + f (c + 3) + f (c + 2) + f (c + 1) = a + ∑ d : Fin 4, f d := by
  rw [Fin.sum_univ_four]
  fin_cases c
  · show a + f 0 + f 3 + f 2 + f 1 = _
    abel
  · show a + f 1 + f 0 + f 3 + f 2 = _
    abel
  · show a + f 2 + f 1 + f 0 + f 3 = _
    abel
  · show a + f 3 + f 2 + f 1 + f 0 = _
    abel

/-! ## The arrays a device reads -/

variable (m : (ℓ : Loc nD τ sig) → Buf (Elt Ideal) ℓ)

theorem xin_eq (c : Dev nD) : xin m c = m ((c.tc : Thread nD τ).loc main_arg0) := by
  funext j
  idx_vars j
  unfold xin
  show m _ _ = m _ _
  congr 1
  funext a
  refine Fin.ext ?_
  blk_simp
  have h0 : win0_0.index (0 : Fin 1) a = 0 := by
    match a with
    | ⟨0, _⟩ => rfl
    | ⟨1, _⟩ => rfl
  rw [h0, Nat.zero_mul, Nat.zero_add]
theorem rwin_eq (c : Dev nD) : rwin m c = m ((c.tc : Thread nD τ).loc main_arg1) := by
  funext j
  idx_vars j
  unfold rwin
  show m _ _ = m _ _
  congr 1
  funext a
  refine Fin.ext ?_
  blk_simp
  have h0 : win0_1.index (0 : Fin 1) a = 0 := by
    match a with
    | ⟨0, _⟩ => rfl
    | ⟨1, _⟩ => rfl
  rw [h0, Nat.zero_mul, Nat.zero_add]
theorem idxin_eq (c : Dev nD) : idxin m c = m ((c.tc : Thread nD τ).loc main_arg2) := by
  funext j
  idx_vars j
  unfold idxin
  show m _ _ = m _ _
  congr 1
  funext a
  refine Fin.ext ?_
  blk_simp
  have h0 : win0_2.index (0 : Fin 1) a = 0 := by
    match a with
    | ⟨0, _⟩ => rfl
    | ⟨1, _⟩ => rfl
  rw [h0, Nat.zero_mul, Nat.zero_add]
theorem swin_eq (c : Dev nD) : swin m c = m ((c.tc : Thread nD τ).loc main_arg4) := by
  funext j
  idx_vars j
  unfold swin
  show m _ _ = m _ _
  congr 1
  funext a
  refine Fin.ext ?_
  blk_simp
  have h0 : win0_3.index (0 : Fin 1) a = 0 := by
    match a with
    | ⟨0, _⟩ => rfl
    | ⟨1, _⟩ => rfl
  rw [h0, Nat.zero_mul, Nat.zero_add]

theorem expertIn_apply (c : Dev nD) (j : Fin 8) (k h : Fin 1024) :
    expertIn m c j (ix3 0 k h) = (m ((c.tc : Thread nD τ).loc main_arg3) : Vec Ideal S8x1024x1024 .f32) (ix3 j k h) := by
  unfold expertIn
  show m _ _ = m _ _
  congr 1
  funext a
  refine Fin.ext ?_
  match a with
  | ⟨0, _⟩ => show j.val + 1 * 0 = j.val; omega
  | ⟨1, _⟩ => show 0 + 1 * k.val = k.val; omega
  | ⟨2, _⟩ => show 0 + 1 * h.val = h.val; omega

/-! ## A device's result -/

/-- Row `r` of device `c`'s block in the whole array, -/
def rowAt (c : Dev nD) (r : Fin 512) : Fin 2048 := ⟨512 * c.val + r.val, by have : c.val < 4 := c.isLt; have := r.isLt; omega⟩

/-- and expert `e` of device `d` in the whole stack. -/
def expertAt (d : Dev nD) (e : Fin 8) : Fin 32 := ⟨8 * d.val + e.val, by have : d.val < 4 := d.isLt; have := e.isLt; omega⟩

variable (X : Vec Ideal S2048x1024 .f32) (R : Vec Ideal S1024x32 .f32) (I : Vec Ideal S2048x1 .i32)
  (E : Vec Ideal ⟨3, ![32, 1024, 1024]⟩ .f32) (S : Vec Ideal S1024x1024 .f32)

/-- Every device holds the whole of four arguments and its own eight experts of the stack. -/
structure Holds : Prop where
  x : ∀ d : Dev nD, m ((d.tc : Thread nD τ).loc main_arg0) = X
  r : ∀ d : Dev nD, m ((d.tc : Thread nD τ).loc main_arg1) = R
  i : ∀ d : Dev nD, m ((d.tc : Thread nD τ).loc main_arg2) = I
  e : ∀ (d : Dev nD) (j : Fin 8) (k h : Fin 1024),
    (m ((d.tc : Thread nD τ).loc main_arg3) : Vec Ideal S8x1024x1024 .f32) (ix3 j k h) = E (ix3 (expertAt d j) k h)
  s : ∀ d : Dev nD, m ((d.tc : Thread nD τ).loc main_arg4) = S

/-- The product of a row with an expert's column. -/
def prodAt (t : Fin 2048) (h : Fin 1024) (d : Fin 4) (e : Fin 8) : EReal :=
  ∑ k : Fin 1024, X (ix2 t k) * E (ix3 (expertAt d e) k h)

variable {m X R I E S} (H : Holds m X R I E S)
include H

theorem rows_apply (k : Fin 4) (d : Dev nD) (r : Fin 512) (j : Fin 1024) :
    xsOf (xb m d) k d (ix2 r j) = X (ix2 (rowAt (fwd k d) r) j) := by
  have hi : (Rect.unit (s := S2048x1024) ![rowOf k d, 0] S512x1024.size (rowOf_x k d)).toLoadRect.idx (ix2 r j)
      = ix2 (rowAt (fwd k d) r) j := by
    funext a
    refine Fin.ext ?_
    match a with
    | ⟨0, _⟩ => show 512 * (fwd k d).val + 1 * r.val = 512 * (fwd k d).val + r.val; omega
    | ⟨1, _⟩ => show 0 + 1 * j.val = j.val; omega
  unfold xsOf
  rw [hi]
  unfold xb
  rw [pay1_apply, xin_eq, H.x]

theorem gates_apply (k : Fin 4) (d : Dev nD) (r : Fin 512) (e : Fin 8) :
    gsOf (gates m d) k d (ix2 r e) = if I (ix2 (rowAt (fwd k d) r) 0) = BitVec.ofNat 32 (8 * d.val + e.val)
      then ReferenceMoe.gate X R I (ix1 (rowAt (fwd k d) r)) else 0 := by
  have hi : (Rect.unit (s := S2048x8) ![rowOf k d, 0] S512x8.size (rowOf_g k d)).toLoadRect.idx (ix2 r e)
      = ix2 (rowAt (fwd k d) r) e := by
    funext a
    refine Fin.ext ?_
    match a with
    | ⟨0, _⟩ => show 512 * (fwd k d).val + 1 * r.val = 512 * (fwd k d).val + r.val; omega
    | ⟨1, _⟩ => show 0 + 1 * e.val = e.val; omega
  unfold gsOf
  rw [hi]
  unfold gates
  rw [pay3_apply, xin_eq, rwin_eq, idxin_eq, H.x, H.r, H.i]

theorem prod_eq (k : Fin 4) (d : Dev nD) (e : Fin 8) (r : Fin 512) (h : Fin 1024) :
    prod (xsOf (xb m d) k d) (expert m d e) r h = prodAt X E (rowAt (fwd k d) r) h d e := by
  unfold prod prodAt
  refine Finset.sum_congr rfl fun j _ => ?_
  rw [rows_apply H]
  unfold expert
  rw [pay6_apply, expertIn_apply, H.e]

/-- A device's gated products for the block `k` places ahead. -/
theorem share_part (k : Fin 4) (d : Dev nD) (r : Fin 512) (h : Fin 1024) :
    ∑ e : Fin 8, gsOf (gates m d) k d (ix2 r e) * prod (xsOf (xb m d) k d) (expert m d e) r h
      = part (I (ix2 (rowAt (fwd k d) r) 0)) (ReferenceMoe.gate X R I (ix1 (rowAt (fwd k d) r)))
          (prodAt X E (rowAt (fwd k d) r) h) d := by
  unfold part
  refine Finset.sum_congr rfl fun e _ => ?_
  rw [gates_apply H, prod_eq H]

omit H in
theorem expertAt_expert (n : Fin 32) : expertAt (deviceOf n) (withinOf n) = n := by
  refine Fin.ext ?_
  show 8 * (n.val / 8) + n.val % 8 = n.val
  omega

omit H in
theorem sent0 (d : Dev nD) : sent m d 0 = share1 (xsOf (xb m d) 1 d) (gsOf (gates m d) 1 d) (expert m d) := rfl
omit H in
theorem sent1 (d : Dev nD) : sent m d 1 = share2 (xsOf (xb m d) 2 d) (gsOf (gates m d) 2 d) (expert m d) := rfl
omit H in
theorem sent2 (d : Dev nD) : sent m d 2 = share3 (xsOf (xb m d) 3 d) (gsOf (gates m d) 3 d) (expert m d) := rfl

omit H in
theorem fwd0 (c : Dev nD) : fwd 0 c = c := by revert c; decide

/-- A device's result, entry by entry, is the reference's value at its rows. -/
theorem outAt_apply (c : Dev nD) (r : Fin 512) (h : Fin 1024) :
    outAt m c (ix2 r h) = ReferenceMoe.whole X R I E S (ix2 (rowAt c r) h) := by
  unfold outAt
  rw [total_apply, share0_apply]
  rw [sent0, sent1, sent2, share1_apply, share2_apply, share3_apply, share_part H, share_part H, share_part H, share_part H, fwd13, fwd22, fwd31, fwd0]
  have hs : ∑ k : Fin 1024, xsOf (xb m c) 0 c (ix2 r k) * swin m c (ix2 k h) = ∑ k : Fin 1024, X (ix2 (rowAt c r) k) * S (ix2 k h) := by
    refine Finset.sum_congr rfl fun k _ => ?_
    rw [rows_apply H, fwd0, swin_eq, H.s]
  rw [hs]
  have hr := ring_sum (part (I (ix2 (rowAt c r) 0)) (ReferenceMoe.gate X R I (ix1 (rowAt c r))) (prodAt X E (rowAt c r) h))
    (∑ k : Fin 1024, X (ix2 (rowAt c r) k) * S (ix2 k h)) c
  refine hr.trans ?_
  rw [part_sum, ReferenceMoe.whole_apply]
  · unfold prodAt
    rw [expertAt_expert]
  · intro hw
    rw [ReferenceMoe.gate_apply, if_neg hw]

/-- A device's result is its block of rows of the reference's value. -/
theorem outAt_block (c : Dev nD) :
    outAt m c = Layout.block ⟨2, ![512, 1024]⟩ ⟨2, ![2048, 1024]⟩ 0 4 c (ReferenceMoe.whole X R I E S) := by
  funext i
  idx_vars i
  rw [outAt_apply H]
  show _ = ReferenceMoe.whole X R I E S _
  refine congrArg (ReferenceMoe.whole X R I E S) (funext fun a => Fin.ext ?_)
  rw [Layout.Tiles.idx_val]
  match a with
  | ⟨0, _⟩ => show 512 * c.val + i0.val = c.val * 512 + i0.val; omega
  | ⟨1, _⟩ => rfl

omit H in
/-- Expert `j` of device `d`'s block of the stack is expert `8 d + j` of the stack. -/
theorem experts_block (d : Dev nD) (W : Vec Ideal ⟨3, ![32, 1024, 1024]⟩ .f32) (j : Fin 8) (k h : Fin 1024) :
    (Layout.block ⟨3, ![8, 1024, 1024]⟩ ⟨3, ![32, 1024, 1024]⟩ 0 4 d W) (ix3 j k h) = W (ix3 (expertAt d j) k h) := by
  show W _ = W _
  refine congrArg W (funext fun a => Fin.ext ?_)
  rw [Layout.Tiles.idx_val]
  match a with
  | ⟨0, _⟩ => show d.val * 8 + j.val = 8 * d.val + j.val; omega
  | ⟨1, _⟩ => rfl
  | ⟨2, _⟩ => rfl

end Cert.IdealMoe

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.IdealLaunch
public import proofs.«01_k».proof.Proof.BitsLaunch
public import proofs.«01_k».proof.Proof.IdealReference
public import proofs.«01_k».proof.Proof.IdealResult
public import Idealize.ShloMosaic.Adequacy
public import Idealize.ShloMosaic.Init

@[expose] public section

noncomputable section

namespace Cert.Proof

open Idealize.ShloMosaic Idealize.SL.Sem

/-- The kernel as printed ends from any memory, its arguments unchanged and every counter at zero. -/
theorem frame_kernel : Cert.quiescent_Kernel := fun m ρ _ =>
  (θ_run Cert.Kernel.defs _ _).mono (fun _ h => ⟨fun c => (h.1 c).2, h.2⟩) (Cert.BitsMoe.run_main (F := Bits) m ρ)

/-- The kernel over the extended reals ends from any memory, its arguments unchanged and every counter at zero. -/
theorem frame_ideal : Cert.quiescent_KernelIdeal := fun m ρ _ =>
  (θ_run Cert.KernelIdeal.defs _ _).mono (fun _ h => ⟨fun c => (h.1 c).2, h.2⟩) (Cert.IdealMoe.run_main (F := Ideal) m ρ)

/-- The reference ends from any memory with its arguments unchanged; it declares no counter. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over the extended reals device `c` ends with block `c` of the rows of the reference's result, from any arguments. -/
theorem algebraic : Cert.algebraic_KernelIdeal_ReferenceIdeal := by
  intro m ρ m' ρ' _ hagree
  have H : Cert.IdealMoe.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun d => (hagree d).1
      r := fun d => (hagree d).2.1
      i := fun d => (hagree d).2.2.1
      s := fun d => (hagree d).2.2.2.2
      e := fun d j k h => by
        rw [(hagree d).2.2.2.1]
        exact Cert.IdealMoe.experts_block d _ j k h }
  refine ⟨Cert.ReferenceIdeal.Value.res_out0 m' 0,
    (θ_run Cert.KernelIdeal.defs _ _).mono (fun r h c => ⟨(h.1 c).1.trans ?_, (h.1 c).2⟩) (Cert.IdealMoe.run_main (F := Ideal) m ρ),
    (θ_run Cert.ReferenceIdeal.defs _ _).mono (fun r h => h 0) (Cert.ReferenceIdeal.Value.run (F := Ideal) m' ρ')⟩
  have hv : Cert.ReferenceIdeal.Value.res_out0 (F := Ideal) m' 0 = _ := Cert.ReferenceMoe.res_eq m' 0
  rw [hv]
  exact Cert.IdealMoe.outAt_block H c

/-- Everything this certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
